-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pack.Statement Cert.KernelIdeal.S16x128
  ∧ IdealRules.named_const.Statement Cert.KernelIdeal.κ "inv_bc2" .f32 0x3FC78729#32 ((104857600000000000000000000 / 67267626542454041806644399 : ℝ) : EReal)
  ∧ IdealRules.named_const.Statement Cert.KernelIdeal.κ "inv_bc1" .f32 0x3F91B733#32 ((100000000000000000000 / 87842334540943071199 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x3840x1536 : Shape := ⟨3, ![64, 3840, 1536]⟩
abbrev S64x3840x12 : Shape := ⟨3, ![64, 3840, 12]⟩
abbrev S3840x1536 : Shape := ⟨2, ![3840, 1536]⟩
abbrev S12x64x3840 : Shape := ⟨3, ![12, 64, 3840]⟩
abbrev S30x1x128 : Shape := ⟨3, ![30, 1, 128]⟩
abbrev S64x128x1536 : Shape := ⟨3, ![64, 128, 1536]⟩
abbrev S12x64x128 : Shape := ⟨3, ![12, 64, 128]⟩
abbrev S128x1536 : Shape := ⟨2, ![128, 1536]⟩
abbrev S1x1x128 : Shape := ⟨3, ![1, 1, 128]⟩
abbrev S16x128 : Shape := ⟨2, ![16, 128]⟩
abbrev S1x128 : Shape := ⟨2, ![1, 128]⟩
abbrev S1x16x128 : Shape := ⟨3, ![1, 16, 128]⟩
abbrev S32x128 : Shape := ⟨2, ![32, 128]⟩
abbrev S32x2048 : Shape := ⟨2, ![32, 2048]⟩
abbrev S64x32x128 : Shape := ⟨3, ![64, 32, 128]⟩
abbrev S2048x128 : Shape := ⟨2, ![2048, 128]⟩
abbrev S128 : Shape := ⟨1, ![128]⟩
abbrev S1 : Shape := ⟨1, ![1]⟩
abbrev S1x1 : Shape := ⟨2, ![1, 1]⟩
abbrev S1x256 : Shape := ⟨2, ![1, 256]⟩
abbrev S128x128 : Shape := ⟨2, ![128, 128]⟩

abbrev nBuf : Space → Nat
  | .hbm => 12
  | .vmem => 22
  | .smem => 0
  | _ => 0

abbrev bufTy : (tb : Table) → Fin (tcTables nBuf tb) → BufTy
  | .hbm, ⟨0, _⟩ => ⟨S64x3840x1536, .fp8e5m2⟩
  | .hbm, ⟨1, _⟩ => ⟨S64x3840x12, .f32⟩
  | .hbm, ⟨2, _⟩ => ⟨S3840x1536, .f32⟩
  | .hbm, ⟨3, _⟩ => ⟨S3840x1536, .f32⟩
  | .hbm, ⟨4, _⟩ => ⟨S3840x1536, .f32⟩
  | .hbm, ⟨5, _⟩ => ⟨S12x64x3840, .f32⟩
  | .hbm, ⟨6, _⟩ => ⟨S3840x1536, .f32⟩
  | .hbm, ⟨7, _⟩ => ⟨S3840x1536, .f32⟩
  | .hbm, ⟨8, _⟩ => ⟨S3840x1536, .f32⟩
  | .hbm, ⟨9, _⟩ => ⟨S3840x1536, .f32⟩
  | .hbm, ⟨10, _⟩ => ⟨S3840x1536, .fp8e4m3⟩
  | .hbm, ⟨11, _⟩ => ⟨S30x1x128, .f32⟩
  | .local _ .vmem, ⟨0, _⟩ => ⟨S64x128x1536, .fp8e5m2⟩
  | .local _ .vmem, ⟨1, _⟩ => ⟨S64x128x1536, .fp8e5m2⟩
  | .local _ .vmem, ⟨2, _⟩ => ⟨S12x64x128, .f32⟩
  | .local _ .vmem, ⟨3, _⟩ => ⟨S12x64x128, .f32⟩
  | .local _ .vmem, ⟨4, _⟩ => ⟨S128x1536, .f32⟩
  | .local _ .vmem, ⟨5, _⟩ => ⟨S128x1536, .f32⟩
  | .local _ .vmem, ⟨6, _⟩ => ⟨S128x1536, .f32⟩
  | .local _ .vmem, ⟨7, _⟩ => ⟨S128x1536, .f32⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | .local _ .vmem, ⟨16, _⟩ => ⟨S128x1536, .f32⟩
  | .local _ .vmem, ⟨17, _⟩ => ⟨S128x1536, .f32⟩
  | .local _ .vmem, ⟨18, _⟩ => ⟨S128x1536, .fp8e4m3⟩
  | .local _ .vmem, ⟨19, _⟩ => ⟨S128x1536, .fp8e4m3⟩
  | .local _ .vmem, ⟨20, _⟩ => ⟨S1x1x128, .f32⟩
  | .local _ .vmem, ⟨21, _⟩ => ⟨S1x1x128, .f32⟩
  | _, _ => ⟨S64x3840x1536, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [BitOps F]

abbrev grid0 : Pipeline.Grid := ⟨1, ![30], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128x1536 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1536 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "inv_bc1" => some ((100000000000000000000 / 87842334540943071199 : ℝ) : EReal)
  | "inv_bc2" => some ((104857600000000000000000000 / 67267626542454041806644399 : ℝ) : EReal)
  | _ => none
-- ==== ReferenceIdeal.lean ====
abbrev S64x3840x1536 : Shape := ⟨3, ![64, 3840, 1536]⟩
abbrev S64x3840x12 : Shape := ⟨3, ![64, 3840, 12]⟩
abbrev S3840x1536 : Shape := ⟨2, ![3840, 1536]⟩
abbrev S30x1x128 : Shape := ⟨3, ![30, 1, 128]⟩
abbrev S64x3840x12x128 : Shape := ⟨4, ![64, 3840, 12, 128]⟩
abbrev S64x3840x12x1 : Shape := ⟨4, ![64, 3840, 12, 1]⟩
abbrev S3840x12x128 : Shape := ⟨3, ![3840, 12, 128]⟩
abbrev S30x128x12x128 : Shape := ⟨4, ![30, 128, 12, 128]⟩
abbrev S30x12 : Shape := ⟨2, ![30, 12]⟩
abbrev S30x1x12x1 : Shape := ⟨4, ![30, 1, 12, 1]⟩
abbrev S30x116 : Shape := ⟨2, ![30, 116]⟩
abbrev S30x128 : Shape := ⟨2, ![30, 128]⟩

abbrev nBuf : Space → Nat
  | .hbm => 11
  | .vmem => 11
  | .smem => 0
  | _ => 0

abbrev bufTy : (tb : Table) → Fin (tcTables nBuf tb) → BufTy
  | .hbm, ⟨0, _⟩ => ⟨S64x3840x1536, .fp8e5m2⟩
  | .hbm, ⟨1, _⟩ => ⟨S64x3840x12, .f32⟩
  | .hbm, ⟨2, _⟩ => ⟨S3840x1536, .f32⟩
  | .hbm, ⟨3, _⟩ => ⟨S3840x1536, .f32⟩
  | .hbm, ⟨4, _⟩ => ⟨S3840x1536, .f32⟩
  | .hbm, ⟨5, _⟩ => ⟨S3840x1536, .f32⟩
  | .hbm, ⟨6, _⟩ => ⟨S3840x1536, .f32⟩
  | .hbm, ⟨7, _⟩ => ⟨S3840x1536, .f32⟩
  | .hbm, ⟨8, _⟩ => ⟨S3840x1536, .f32⟩
  | .hbm, ⟨9, _⟩ => ⟨S3840x1536, .fp8e4m3⟩
  | .hbm, ⟨10, _⟩ => ⟨S30x1x128, .f32⟩
  | .local _ .vmem, ⟨0, _⟩ => ⟨S64x3840x1536, .fp8e5m2⟩
  | .local _ .vmem, ⟨1, _⟩ => ⟨S64x3840x12, .f32⟩
  | .local _ .vmem, ⟨2, _⟩ => ⟨S3840x1536, .f32⟩
  | .local _ .vmem, ⟨3, _⟩ => ⟨S3840x1536, .f32⟩
  | .local _ .vmem, ⟨4, _⟩ => ⟨S3840x1536, .f32⟩
  | .local _ .vmem, ⟨5, _⟩ => ⟨S3840x1536, .f32⟩
  | .local _ .vmem, ⟨6, _⟩ => ⟨S3840x1536, .f32⟩
  | .local _ .vmem, ⟨7, _⟩ => ⟨S3840x1536, .f32⟩
  | .local _ .vmem, ⟨8, _⟩ => ⟨S3840x1536, .f32⟩
  | .local _ .vmem, ⟨9, _⟩ => ⟨S3840x1536, .fp8e4m3⟩
  | .local _ .vmem, ⟨10, _⟩ => ⟨S30x1x128, .f32⟩
  | _, _ => ⟨S64x3840x1536, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "bc1" => some ((87842334540943071199 / 100000000000000000000 : ℝ) : EReal)
  | "bc2" => some ((67267626542454041806644399 / 104857600000000000000000000 : ℝ) : EReal)
  | "ln2" => some ((Real.log 2 : ℝ) : EReal)
  | _ => none

abbrev grid0 : Pipeline.Grid := .none

abbrev stage0_0 : Fin 1 → Memref sig .tc .vmem S64x3840x1536 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x3840x12 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3840x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3840x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3840x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3840x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3840x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3840x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3840x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3840x1536 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S30x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Body.lean ====
/-
  The kernel's body written once for a column block `b` and a row group `q`, where the program writes it out for each
  of the 12 × 4 pairs: the same vector operations in the same order, with the numbers that differ as parameters. The
  definitions are over any reading of floats; the file `Pieces.lean` shows that the program's stores are these.
-/
module

public import proofs.«01_k».proof.Proof.Gen.KernelIdeal.Skeleton
public import Idealize.ShloMosaic.Lib.Pipeline.Value

@[expose] public section

noncomputable section

namespace Cert.KernelIdeal.Body

open Cert.KernelIdeal Idealize.ShloMosaic Idealize.SL.Sem
open Facts₀ Facts

variable {F : FTy → Type} [FloatOps F] [Named F]

/-- Where, in a 16 × 128 tile, the lane modulo 32 is the row plus `h`. -/
def mask (h : BitVec 32) : IVec S16x128 1 :=
  cmpi .eq (andi (iota .tc S16x128 32 [1] iota_S16x128_d1_w32) (broadcast S16x128 31#32))
    (addi (iota .tc S16x128 32 [0] iota_S16x128_d0_w32) (broadcast S16x128 h))

/-- A 16 × 128 tile of zeros. -/
def zero : FVec F S16x128 .bf16 := broadcast S16x128 (Scalar.ofBits .bf16 0x0000#16)

/-- The rectangle of scales of column block `b` at the ranks that are `i` modulo 4. -/
def scaleRect (b : Fin 12) (i : Fin 4) : LoadRect S12x64x128 :=
  ⟨![b.val, i.val, 0], S1x16x128.size, ![1, 4, 1], fun a => by
    have hb := b.isLt; have hi := i.isLt
    fin_cases a <;> simp [S12x64x128, S1x16x128] <;> omega⟩

/-- The scales of column block `b` at the ranks that are `i` modulo 4: one row for each such rank. -/
def part (x1 : Vec F S12x64x128 .f32) (b : Fin 12) (i : Fin 4) : FVec F S16x128 .f32 :=
  shapeCast S16x128 (fun y => x1 ((scaleRect b i).idx y)) shapeCasts_S1x16x128_S16x128

/-- A rotation of the lanes by `n`, left out when `n` is zero. -/
def turn (n : ℕ) (x : FVec F S16x128 .f32) : FVec F S16x128 .f32 :=
  match n with
  | 0 => x
  | k + 1 => dynamicRotate 1 (BitVec.ofNat 32 (k + 1)) none x rotates_S16x128_d1

/-- Where the lane is at least `n`. -/
def from_ (n : BitVec 32) : IVec S16x128 1 :=
  cmpi .sge (iota .tc S16x128 32 [1] iota_S16x128_d1_w32) (broadcast S16x128 n)

/-- The four scale rows of row group `q`, each moved to its quarter of the lanes. -/
def spread (x1 : Vec F S12x64x128 .f32) (b : Fin 12) (q : Fin 4) : FVec F S16x128 .bf16 :=
  truncf .bf16 (extf .f32 (truncf .bf16
    (select (from_ 96#32) (turn (32 * ((7 - q.val) % 4)) (part x1 b 3))
      (select (from_ 64#32) (turn (32 * ((6 - q.val) % 4)) (part x1 b 2))
        (select (from_ 32#32) (turn (32 * ((5 - q.val) % 4)) (part x1 b 1))
          (turn (32 * ((4 - q.val) % 4)) (part x1 b 0)))))))
    bitsLt_bf16_f32

/-- Row `t` of a 16 × 128 tile, sixteen times. -/
def rowOf (s : FVec F S16x128 .bf16) (t : Fin 16) : FVec F S16x128 .bf16 :=
  broadcastTo S16x128 (shapeCast S1x128 (extractStridedSlice S1x128 ![t.val, 0] s ⟨rfl, fun a => by
    have ht := t.isLt
    fin_cases a <;> simp [S16x128, S1x128] <;> omega⟩) shapeCasts_S1x128_S1x128) broadcasts_S1x128_S16x128

/-- Four 32 × 32 diagonal blocks side by side: row `t` of the spread scales on the diagonals. -/
def tile (s : FVec F S16x128 .bf16) (t : Fin 16) : FVec F S32x128 .bf16 :=
  concatenate S32x128 0 [⟨S16x128, select (mask 0#32) (rowOf s t) zero⟩, ⟨S16x128, select (mask 16#32) (rowOf s t) zero⟩]
    concatenates_S16x128_S16x128_S32x128_d0

/-- The sixteen tiles side by side: the left operand of the product. -/
def lhs (s : FVec F S16x128 .bf16) : FVec F S32x2048 .bf16 :=
  concatenate S32x2048 1 [⟨S32x128, tile s 0⟩, ⟨S32x128, tile s 1⟩, ⟨S32x128, tile s 2⟩, ⟨S32x128, tile s 3⟩, ⟨S32x128, tile s 4⟩, ⟨S32x128, tile s 5⟩, ⟨S32x128, tile s 6⟩, ⟨S32x128, tile s 7⟩, ⟨S32x128, tile s 8⟩, ⟨S32x128, tile s 9⟩, ⟨S32x128, tile s 10⟩, ⟨S32x128, tile s 11⟩, ⟨S32x128, tile s 12⟩, ⟨S32x128, tile s 13⟩, ⟨S32x128, tile s 14⟩, ⟨S32x128, tile s 15⟩]
    concatenates_S32x128_S32x128_S32x128_S32x128_S32x128_S32x128_S32x128_S32x128_S32x128_S32x128_S32x128_S32x128_S32x128_S32x128_S32x128_S32x128_S32x2048_d1

/-- The codes of all ranks in the rows of group `q` and the columns of block `b`. -/
def codeRect (b : Fin 12) (q : Fin 4) : Rect S64x128x1536 :=
  Rect.unit (s := S64x128x1536) ![0, 32 * q.val, 128 * b.val] S64x32x128.size (fun a => by
    have hb := b.isLt; have hi := q.isLt
    fin_cases a <;> simp [S64x128x1536, S64x32x128] <;> omega)

/-- The rows of group `q` in the columns of block `b`. -/
def cell (b : Fin 12) (q : Fin 4) : Rect S128x1536 :=
  Rect.unit (s := S128x1536) ![32 * q.val, 128 * b.val] S32x128.size (fun a => by
    have hb := b.isLt; have hi := q.isLt
    fin_cases a <;> simp [S128x1536, S32x128] <;> omega)

/-- All rows in the columns of block `b`. -/
def column (b : Fin 12) : Rect S128x1536 :=
  Rect.unit (s := S128x1536) ![0, 128 * b.val] S128x128.size (fun a => by
    have hb := b.isLt
    fin_cases a <;> simp [S128x1536, S128x128] <;> omega)

section Step
variable (g : FVec F S32x128 .f32) (w m v : Vec F S32x128 .f32)

/-- The new first moment. -/
def mNew : FVec F S32x128 .f32 :=
  addf (mulf (broadcast S32x128 (Scalar.ofBits .f32 0x3F666666#32)) m) (mulf (broadcast S32x128 (Scalar.ofBits .f32 0x3DCCCCCD#32)) g)

/-- The new second moment. -/
def vNew : FVec F S32x128 .f32 :=
  addf (mulf (broadcast S32x128 (Scalar.ofBits .f32 0x3F733333#32)) v) (mulf (broadcast S32x128 (Scalar.ofBits .f32 0x3D4CCCCD#32)) (mulf g g))

/-- The update. -/
def upd : FVec F S32x128 .f32 :=
  mulf (broadcast S32x128 (Scalar.ofBits .f32 0x3C23D70A#32))
    (addf
      (divf (mulf (mNew g m) (broadcast S32x128 (Named.named κ "inv_bc1" 0x3F91B733#32)))
        (addf (sqrt (mulf (vNew g v) (broadcast S32x128 (Named.named κ "inv_bc2" 0x3FC78729#32))))
          (broadcast S32x128 (Scalar.ofBits .f32 0x322BCC77#32))))
      (mulf (broadcast S32x128 (Scalar.ofBits .f32 0x3DCCCCCD#32)) w))

/-- The new weights. -/
def wNew : FVec F S32x128 .f32 := subf w (upd g w m v)

end Step

section Block
variable (x0 : Vec F S64x128x1536 .fp8e5m2) (x1 : Vec F S12x64x128 .f32) (x2 x3 x4 : Vec F S128x1536 .f32) (b : Fin 12) (q : Fin 4)

/-- The mean over the ranks of scale times code. -/
def grad : FVec F S32x128 .f32 :=
  mulf (matmul dot_S32x2048_S2048x128_S32x128_1_0_0_1_n_n none (lhs (spread x1 b q))
      (shapeCast S2048x128 (View.ld x0 (codeRect b q)) shapeCasts_S64x32x128_S2048x128 : FVec F S2048x128 .fp8e5m2)
      (constant S32x128 .f32 0x00000000#32))
    (broadcast S32x128 (Scalar.ofBits .f32 0x3C800000#32))

/-- The new first moment of the cell. -/
def cellM : FVec F S32x128 .f32 := mNew (grad x0 x1 b q) (View.ld x3 (cell b q))
/-- The new second moment of the cell. -/
def cellV : FVec F S32x128 .f32 := vNew (grad x0 x1 b q) (View.ld x4 (cell b q))
/-- The update of the cell. -/
def cellU : FVec F S32x128 .f32 := upd (grad x0 x1 b q) (View.ld x2 (cell b q)) (View.ld x3 (cell b q)) (View.ld x4 (cell b q))
/-- The new weights of the cell. -/
def cellW : FVec F S32x128 .f32 := wNew (grad x0 x1 b q) (View.ld x2 (cell b q)) (View.ld x3 (cell b q)) (View.ld x4 (cell b q))

/-- The largest magnitude in each column of the cell. -/
def peak : FVec F S1x128 .f32 :=
  shapeCast S1x128 (multiReduction .maximumf [0] S128 (absf (cellW x0 x1 x2 x3 x4 b q)) 0xFF800000#32 reduces_S32x128_S128 (.inl rfl) rfl)
    shapeCasts_S128_S1x128

/-- The largest magnitude of the block over 448. -/
def amax : FVec F S1x1 .f32 :=
  mulf (shapeCast S1x1 (multiReduction .maximumf [1] S1
      (maximumf (maximumf (maximumf (peak x0 x1 x2 x3 x4 b 0) (peak x0 x1 x2 x3 x4 b 1)) (peak x0 x1 x2 x3 x4 b 2)) (peak x0 x1 x2 x3 x4 b 3))
      0xFF800000#32 reduces_S1x128_S1 (.inl rfl) rfl) shapeCasts_S1_S1x1)
    (broadcast S1x1 (Scalar.ofBits .f32 0x3B124925#32))

end Block

section Quantiser
variable (a : FVec F S1x1 .f32)

/-- The powers of two `2 ^ (k - 127)`, `k` in 1 … 252, that are at most `a`, counted. -/
def count : IVec S1x1 32 :=
  shapeCast S1x1 (multiReductionI .add [1] S1
    (select (andi (andi (cmpi .sge (iota .tc S1x256 32 [1] iota_S1x256_d1_w32) (broadcast S1x256 1#32))
          (cmpi .sle (iota .tc S1x256 32 [1] iota_S1x256_d1_w32) (broadcast S1x256 252#32)))
        (cmpf .oge (broadcastTo S1x256 a broadcasts_S1x1_S1x256 : FVec F S1x256 .f32)
          (bitcastToFloat .f32 (shli (iota .tc S1x256 32 [1] iota_S1x256_d1_w32) (broadcast S1x256 23#32)) : FVec F S1x256 .f32)))
      (broadcast S1x256 1#32) (broadcast S1x256 0#32))
    0#32 reduces_S1x256_S1 rfl) shapeCasts_S1_S1x1

/-- The count, or 255 when `a` is not finite. -/
def biased : IVec S1x1 32 :=
  select (cmpf .olt a (broadcast S1x1 (Scalar.ofBits .f32 0x7F800000#32))) (count a) (broadcast S1x1 255#32)

/-- The exponent of the scale. -/
def expo : IVec S1x1 32 :=
  select (ori (cmpf .oeq a (broadcast S1x1 (Scalar.ofBits .f32 0x00000000#32))) (cmpi .eq (biased a) (broadcast S1x1 255#32)))
    (broadcast S1x1 0#32) (subi (biased a) (broadcast S1x1 126#32))

/-- The scale, two to the exponent. -/
def scale : FVec F S1x1 .f32 :=
  bitcastToFloat .f32 (shli (addi (expo a) (broadcast S1x1 127#32)) (broadcast S1x1 23#32))

/-- One over the scale. -/
def inv : FVec F S1x1 .f32 :=
  bitcastToFloat .f32 (shli (subi (broadcast S1x1 127#32) (expo a)) (broadcast S1x1 23#32))

/-- The codes of a block of new weights. -/
def codes (w : Vec F S128x128 .f32) : FVec F S128x128 .fp8e4m3 :=
  truncf .fp8e4m3
    (minimumf (broadcast S128x128 (Scalar.ofBits .f32 0x43E00000#32))
      (maximumf (broadcast S128x128 (Scalar.ofBits .f32 0xC3E00000#32))
        (mulf (shapeCast S128x128 w shapeCasts_S128x128_S128x128 : FVec F S128x128 .f32)
          (broadcastTo S128x128 (inv a) broadcasts_S1x1_S128x128))))
    bitsLt_fp8e4m3_f32

/-- A row of scales with the scale of column block `b` put in its lane. -/
def put (b : BitVec 32) (row : FVec F S1x128 .f32) : FVec F S1x128 .f32 :=
  select (cmpi .eq (iota .tc S1x128 32 [1] iota_S1x128_d1_w32) (broadcast S1x128 b))
    (broadcastTo S1x128 (shapeCast S1x1 (scale a) shapeCasts_S1x1_S1x1 : FVec F S1x1 .f32) broadcasts_S1x1_S1x128) row

end Quantiser

/-- The column blocks, last first. -/
def blocks : List (Fin 12) := [11, 10, 9, 8, 7, 6, 5, 4, 3, 2, 1, 0]

/-- The stores of one cell for each of the column blocks `bs` and each row group, last first. -/
def cells (bs : List (Fin 12)) (f : Fin 12 → Fin 4 → Vec F S32x128 .f32) : List (View.Piece (Elt F) S128x1536 .f32) :=
  bs.flatMap fun b => [⟨cell b 3, f b 3⟩, ⟨cell b 2, f b 2⟩, ⟨cell b 1, f b 1⟩, ⟨cell b 0, f b 0⟩]

/-- The stores of one column of cells for each column block, last first. -/
def columns (f : Fin 12 → Vec F S128x128 .fp8e4m3) : List (View.Piece (Elt F) S128x1536 .fp8e4m3) :=
  blocks.map fun b => ⟨column b, f b⟩

/-- The row of scales: zeros, with the scale of column block `b` put in lane `b` for each `b`. -/
def scaleRow (a : Fin 12 → FVec F S1x1 .f32) : FVec F S1x128 .f32 :=
  put (a 11) 11#32 (put (a 10) 10#32 (put (a 9) 9#32 (put (a 8) 8#32 (put (a 7) 7#32 (put (a 6) 6#32
    (put (a 5) 5#32 (put (a 4) 4#32 (put (a 3) 3#32 (put (a 2) 2#32 (put (a 1) 1#32 (put (a 0) 0#32
      (broadcast S1x128 (Scalar.ofBits .f32 0x00000000#32)))))))))))))

/-- The store of the row of scales. -/
def scaleStore (row : FVec F S1x128 .f32) : List (View.Piece (Elt F) S1x1x128 .f32) :=
  [⟨Rect.unit (s := S1x1x128) ![0, 0, 0] S1x1x128.size (fun a => by fin_cases a <;> simp [S1x1x128]),
    shapeCast S1x1x128 row shapeCasts_S1x128_S1x1x128⟩]

end Cert.KernelIdeal.Body

end
-- ==== Proof.Quant.lean ====
/-
  The quantiser's scale over the extended reals. The exponent of a magnitude `x` is the floor of its binary logarithm plus
  one, kept in -126 … 126, and zero where `x` is zero or infinite. The kernel finds it by counting powers of two.
-/
module

public import proofs.«01_k».proof.Proof.Body
public import Idealize.ShloMosaic.Lib.Pointwise
public import Idealize.ShloMosaic.Lib.IndicatorCount
public import Mathlib.Analysis.SpecialFunctions.Log.Basic

@[expose] public section

noncomputable section

namespace Cert.Quant

open Idealize.ShloMosaic Idealize.SL.Sem

/-- The floor of the binary logarithm. -/
def log2 (r : ℝ) : ℤ := ⌊Real.log r / Real.log 2⌋

/-- The exponent of the scale of a block whose largest magnitude over 448 is `x`. -/
def expo (x : EReal) : ℤ :=
  if x = 0 ∨ x = ⊤ then 0 else min 126 (max (-126) (log2 x.toReal + 1))

theorem expo_le (x : EReal) : expo x ≤ 126 := by
  unfold expo; split <;> omega

theorem le_expo (x : EReal) : -126 ≤ expo x := by
  unfold expo; split <;> omega

/-- The number whose bits are a biased exponent `n` alone is a power of two. -/
theorem ofBits_pow (w : BitVec 32) (n : ℕ) (h1 : 1 ≤ n) (h2 : n ≤ 254) (hw : w.toNat = n * 2 ^ 23) :
    Ideal.ofBits .f32 w = (((2 : ℝ) ^ ((n : ℤ) - 127) : ℝ) : EReal) := by
  have e1 : (w.extractLsb' 23 8).toNat = n := by
    rw [BitVec.extractLsb'_toNat, hw, Nat.shiftRight_eq_div_pow]; omega
  have e2 : (w.extractLsb' 0 23).toNat = 0 := by
    rw [BitVec.extractLsb'_toNat, hw, Nat.shiftRight_eq_div_pow]; omega
  have e3 : (w.extractLsb' 31 1 == 1#1) = false := by
    rw [beq_eq_false_iff_ne]
    intro h
    have := congrArg BitVec.toNat h
    rw [BitVec.extractLsb'_toNat, hw, Nat.shiftRight_eq_div_pow] at this
    simp at this
    omega
  show Ideal.ieee 8 23 w = _
  unfold Ideal.ieee
  simp only [show (8 + 23 : ℕ) = 31 from rfl, e1, e2, e3]
  rw [if_neg (by omega), if_neg (by omega)]
  congr 1
  simp only [Bool.false_eq_true, if_false, one_mul, Nat.add_zero]
  rw [show ((2 ^ 23 : ℕ) : ℝ) = (2 : ℝ) ^ (23 : ℤ) by norm_num, ← zpow_add₀ (by norm_num)]
  congr 1
  omega

/-- A power of two is at most a positive real exactly where its exponent is at most the floor of the binary logarithm. -/
theorem pow_le_iff (r : ℝ) (hr : 0 < r) (z : ℤ) : (((2 : ℝ) ^ z : ℝ) : EReal) ≤ (r : EReal) ↔ z ≤ log2 r := by
  have h2 : 0 < Real.log 2 := Real.log_pos (by norm_num)
  rw [EReal.coe_le_coe_iff, log2, Int.le_floor, le_div_iff₀ h2, ← Real.log_zpow, Real.log_le_log_iff (by positivity) hr]

/-- How many of the numbers 1 … 252 are at most `z`. -/
theorem card_upto (z : ℤ) :
    (Finset.univ.filter fun k : Fin 256 => (1 ≤ k.val ∧ k.val ≤ 252) ∧ (k.val : ℤ) ≤ z).card = (min 252 (max 0 z)).toNat := by
  have e : (Finset.univ.filter fun k : Fin 256 => (1 ≤ k.val ∧ k.val ≤ 252) ∧ (k.val : ℤ) ≤ z) =
      ((Finset.range (min 252 (max 0 z)).toNat).attach.map
        ⟨fun i => (⟨i.val + 1, by have := Finset.mem_range.mp i.2; omega⟩ : Fin 256), fun i j h => by
          have := congrArg Fin.val h
          exact Subtype.ext (by simpa using this)⟩) := by
    ext k
    have hk := k.isLt
    simp only [Finset.mem_filter, Finset.mem_univ, true_and, Finset.mem_map, Finset.mem_attach, Function.Embedding.coeFn_mk]
    constructor
    · intro h
      exact ⟨⟨k.val - 1, Finset.mem_range.mpr (by omega)⟩, Fin.ext (by show k.val - 1 + 1 = k.val; omega)⟩
    · rintro ⟨i, rfl⟩
      have := Finset.mem_range.mp i.2
      show (1 ≤ i.val + 1 ∧ i.val + 1 ≤ 252) ∧ ((i.val + 1 : ℕ) : ℤ) ≤ z
      omega
  rw [e, Finset.card_map, Finset.card_attach, Finset.card_range]

/-- The reference's exponent: the floor of the logarithm over the logarithm of two, plus one, clipped. -/
theorem log_expo (r : ℝ) (hr : 0 < r) :
    Ideal.liftRound Int.floor (Ideal.div (Ideal.log (r : EReal)) ((Real.log 2 : ℝ) : EReal)) = (((log2 r : ℤ) : ℝ) : EReal) := by
  have h2 : Real.log 2 ≠ 0 := (Real.log_pos (by norm_num)).ne'
  show Ideal.liftRound Int.floor (Ideal.div (if r ≤ 0 then ⊥ else ((Real.log r : ℝ) : EReal)) _) = _
  rw [if_neg (not_le.mpr hr)]
  unfold Ideal.div
  rw [if_neg (by exact_mod_cast h2), ← EReal.coe_inv, ← EReal.coe_mul, ← div_eq_mul_inv]
  rfl

/-- The exponent as the reference writes it: the floor of the binary logarithm plus one, clipped. -/
theorem expo_clip (x : EReal) (h0 : 0 ≤ x) (hz : x ≠ 0) (ht : x ≠ ⊤) :
    min ((126 : ℝ) : EReal) (max ((-126 : ℝ) : EReal)
      (Ideal.liftRound Int.floor (Ideal.div (Ideal.log x) ((Real.log 2 : ℝ) : EReal)) + ((1 : ℝ) : EReal))) = ((expo x : ℝ) : EReal) := by
  induction x using EReal.rec with
  | bot => simp at h0
  | top => exact absurd rfl ht
  | coe r =>
    have hr : 0 < r := lt_of_le_of_ne (EReal.coe_nonneg.mp h0) (fun e => hz (by rw [← e]; rfl))
    rw [log_expo r hr, ← EReal.coe_add, ← EReal.coe_strictMono.monotone.map_max, ← EReal.coe_strictMono.monotone.map_min,
      expo, if_neg (by rintro (h | h); exact hz h; exact ht h), EReal.toReal_coe]
    push_cast
    rfl

/-- Two to an integer. -/
theorem exp2_int (z : ℤ) : Ideal.exp2 ((z : ℝ) : EReal) = (((2 : ℝ) ^ z : ℝ) : EReal) := by
  show ((Real.rpow 2 (z : ℝ) : ℝ) : EReal) = _
  congr 1
  exact Real.rpow_intCast 2 z

end Cert.Quant

namespace Cert.KernelIdeal.Body

open Cert.KernelIdeal Idealize.ShloMosaic Idealize.SL.Sem
open Facts₀ Facts Cert.Quant

theorem toInt_ofNat (n : ℕ) (hn : n < 2 ^ 31) : (BitVec.ofNat 32 n).toInt = n := by
  rw [BitVec.toInt_eq_toNat_of_lt] <;> rw [BitVec.toNat_ofNat] <;> omega

theorem ofInt_sub (x y : ℤ) : BitVec.ofInt 32 (x - y) = BitVec.ofInt 32 x - BitVec.ofInt 32 y := by
  refine (BitVec.eq_sub_iff_add_eq).mpr ?_
  rw [← BitVec.ofInt_add, Int.sub_add_cancel]

/-- The bits of a number below 512 moved up by 23. -/
theorem toNat_shli (w : BitVec 32) (n : ℕ) (hn : n < 512) (hw : w.toNat = n) : (IntOp.shli .vector w 23#32).toNat = n * 2 ^ 23 := by
  show (if (23#32).toNat < 32 then w <<< (23#32) else _ : BitVec 32).toNat = _
  rw [if_pos (by decide), BitVec.shiftLeft_eq', BitVec.toNat_shiftLeft, hw, Nat.shiftLeft_eq]
  show n * 2 ^ 23 % 2 ^ 32 = _
  omega

/-- The kernel's count: the powers of two with an exponent in -126 … 125 that are at most the magnitude. -/
theorem count_apply (a : FVec Ideal S1x1 .f32) :
    count a (ix2 0 0) = BitVec.ofNat 32 (Finset.univ.filter fun k : Fin 256 => (1 ≤ k.val ∧ k.val ≤ 252) ∧
      (((2 : ℝ) ^ ((k.val : ℤ) - 127) : ℝ) : EReal) ≤ a (ix2 0 0)).card := by
  have hsel : ∀ b : BitVec 1, Scalar.select b 1#32 0#32 = b.setWidth 32 := by decide
  have hand : ∀ p q r : Prop, ∀ [Decidable p], ∀ [Decidable q], ∀ [Decidable r],
      IntOp.andi (IntOp.andi (BitVec.ofBool (decide p)) (BitVec.ofBool (decide q))) (BitVec.ofBool (decide r)) = 1#1 ↔ (p ∧ q) ∧ r := by
    intro p q r _ _ _
    by_cases hp : p <;> by_cases hq : q <;> by_cases hr : r <;> simp [hp, hq, hr, IntOp.andi]
  unfold count
  pointwise
  simp only [hsel]
  rw [IndicatorCount.fold_addi_setWidth_eq_card]
  congr 2
  refine Finset.filter_congr fun k _ => ?_
  have hk := k.isLt
  show IntOp.andi (IntOp.andi (BitVec.ofBool (decide _)) (BitVec.ofBool (decide _))) _ = 1#1 ↔ _
  rw [hand, toInt_ofNat 1 (by omega), toInt_ofNat k.val (by omega), toInt_ofNat 252 (by omega)]
  constructor
  · rintro ⟨⟨h1, h2⟩, h3⟩
    refine ⟨by omega, ?_⟩
    rwa [ofBits_pow _ k.val (by omega) (by omega) (toNat_shli _ _ (by omega) (by rw [BitVec.toNat_ofNat]; omega))] at h3
  · rintro ⟨h1, h3⟩
    refine ⟨by omega, ?_⟩
    rwa [ofBits_pow _ k.val (by omega) (by omega) (toNat_shli _ _ (by omega) (by rw [BitVec.toNat_ofNat]; omega))]

/-- The kernel's exponent at a magnitude is the floor of the binary logarithm plus one, clipped. -/
theorem expo_apply (a : FVec Ideal S1x1 .f32) (h0 : 0 ≤ a (ix2 0 0)) :
    expo a (ix2 0 0) = BitVec.ofInt 32 (Quant.expo (a (ix2 0 0))) := by
  have hcount := count_apply a
  have hinf : Ideal.ofBits .f32 0x7F800000#32 = ⊤ := by simp [Ideal.ofBits, Ideal.ieee]
  have hzero : Ideal.ofBits .f32 0x00000000#32 = 0 := by simp [Ideal.ofBits, Ideal.ieee]
  have hcard : ∀ r : ℝ, a (ix2 0 0) = (r : EReal) → 0 < r →
      count a (ix2 0 0) = BitVec.ofNat 32 (min 252 (max 0 (Quant.log2 r + 127))).toNat := by
    intro r hr hpos
    rw [hcount, hr, ← Quant.card_upto]
    congr 2
    refine Finset.filter_congr fun k _ => and_congr_right fun _ => ?_
    rw [Quant.pow_le_iff r hpos]
    omega
  unfold expo biased
  pointwise
  rw [hinf]
  revert hcard
  generalize count a (ix2 0 0) = n
  generalize a (ix2 0 0) = x at h0 ⊢
  intro hcard
  have hori : ∀ b : BitVec 1, IntOp.ori (1#1) b = 1#1 := by decide
  have hori0 : ∀ b : BitVec 1, IntOp.ori (0#1) b = b := by decide
  induction x using EReal.rec with
  | bot => simp at h0
  | top =>
    have h : Quant.expo ⊤ = 0 := by simp [Quant.expo]
    rw [h, if_neg (by simp)]
    have : (decide ((⊤ : EReal) = 0)) = false := by simp
    rw [this]
    decide
  | coe r =>
    rcases eq_or_lt_of_le (EReal.coe_nonneg.mp h0) with hr | hr
    · subst hr
      have h : Quant.expo ((0 : ℝ) : EReal) = 0 := by simp [Quant.expo]
      have hd : (decide (((0 : ℝ) : EReal) = 0)) = true := by simp
      rw [h, hd]
      show Scalar.select (IntOp.ori 1#1 _) _ _ = _
      rw [hori]
      rfl
    · have hd : (decide ((r : EReal) = 0)) = false := by simpa using hr.ne'
      have he : Quant.expo (r : EReal) = min 126 (max (-126) (Quant.log2 r + 1)) := by
        rw [Quant.expo, if_neg, EReal.toReal_coe]
        simpa using hr.ne'
      rw [he, hcard r rfl hr, if_pos (EReal.coe_lt_top r), hd]
      show Scalar.select (IntOp.ori 0#1 _) _ _ = _
      rw [hori0]
      obtain ⟨k, hk, hle⟩ : ∃ k : ℕ, min 252 (max 0 (Quant.log2 r + 127)) = (k : ℤ) ∧ k ≤ 252 :=
        ⟨(min 252 (max 0 (Quant.log2 r + 127))).toNat, by omega, by omega⟩
      have hk' : min 126 (max (-126) (Quant.log2 r + 1)) = (k : ℤ) - 126 := by omega
      rw [hk, hk', Int.toNat_natCast]
      have hne : (BitVec.ofNat 32 k == 255#32) = false := by
        simp only [beq_eq_false_iff_ne, ne_eq, ← BitVec.toNat_inj, BitVec.toNat_ofNat]
        omega
      have hc : IntOp.cmpi .eq (BitVec.ofNat 32 k) 255#32 = 0#1 := by
        show BitVec.ofBool (BitVec.ofNat 32 k == 255#32) = 0#1
        rw [hne]
        rfl
      rw [hc]
      show BitVec.ofNat 32 k - 126#32 = _
      rw [ofInt_sub]
      rfl

/-- The kernel's scale is two to the exponent. -/
theorem scale_apply (a : FVec Ideal S1x1 .f32) (h0 : 0 ≤ a (ix2 0 0)) :
    scale a (ix2 0 0) = (((2 : ℝ) ^ Quant.expo (a (ix2 0 0)) : ℝ) : EReal) := by
  have he := expo_apply a h0
  have h1 := Quant.expo_le (a (ix2 0 0))
  have h2 := Quant.le_expo (a (ix2 0 0))
  unfold scale
  pointwise
  rw [he]
  generalize Quant.expo (a (ix2 0 0)) = e at h1 h2 ⊢
  obtain ⟨n, rfl⟩ : ∃ n : ℕ, e = (n : ℤ) - 127 := ⟨(e + 127).toNat, by omega⟩
  have hn : IntOp.addi (BitVec.ofInt 32 ((n : ℤ) - 127)) 127#32 = BitVec.ofNat 32 n := by
    show BitVec.ofInt 32 ((n : ℤ) - 127) + BitVec.ofInt 32 127 = _
    rw [← BitVec.ofInt_add, Int.sub_add_cancel, BitVec.ofInt_natCast]
  rw [hn]
  exact ofBits_pow _ n (by omega) (by omega) (toNat_shli _ _ (by omega) (by rw [BitVec.toNat_ofNat]; omega))

/-- The factor the values are multiplied by is two to minus the exponent. -/
theorem inv_apply (a : FVec Ideal S1x1 .f32) (h0 : 0 ≤ a (ix2 0 0)) :
    inv a (ix2 0 0) = (((2 : ℝ) ^ (-Quant.expo (a (ix2 0 0))) : ℝ) : EReal) := by
  have he := expo_apply a h0
  have h1 := Quant.expo_le (a (ix2 0 0))
  have h2 := Quant.le_expo (a (ix2 0 0))
  unfold inv
  pointwise
  rw [he]
  generalize Quant.expo (a (ix2 0 0)) = e at h1 h2 ⊢
  obtain ⟨n, rfl⟩ : ∃ n : ℕ, e = 127 - (n : ℤ) := ⟨(127 - e).toNat, by omega⟩
  have hn : IntOp.subi 127#32 (BitVec.ofInt 32 (127 - (n : ℤ))) = BitVec.ofNat 32 n := by
    show BitVec.ofInt 32 127 - BitVec.ofInt 32 (127 - (n : ℤ)) = _
    rw [← ofInt_sub, Int.sub_sub_self, BitVec.ofInt_natCast]
  rw [hn, show -(127 - (n : ℤ)) = n - 127 by omega]
  exact ofBits_pow _ n (by omega) (by omega) (toNat_shli _ _ (by omega) (by rw [BitVec.toNat_ofNat]; omega))

end Cert.KernelIdeal.Body

end
-- ==== Proof.Spec.lean ====
/-
  What both programs compute, entry by entry over the extended reals: the mean gradient, AdamW's two moments, update and new
  weight, and the exponent of a block's scale with the codes it gives.
-/
module

public import Idealize.ShloMosaic.Lib.Pointwise
public import proofs.«01_k».proof.Proof.Quant

@[expose] public section

noncomputable section

namespace Cert.Spec

open Idealize.ShloMosaic

/-- The first bias correction, as a factor. -/
def corr1 : EReal := ((100000000000000000000 / 87842334540943071199 : ℝ) : EReal)
/-- The second bias correction, as a factor. -/
def corr2 : EReal := ((104857600000000000000000000 / 67267626542454041806644399 : ℝ) : EReal)

/-- The new first moment from a gradient and a first moment. -/
def m (g m : EReal) : EReal := Ideal.ofBits .f32 0x3F666666#32 * m + Ideal.ofBits .f32 0x3DCCCCCD#32 * g
/-- The new second moment from a gradient and a second moment. -/
def v (g v : EReal) : EReal := Ideal.ofBits .f32 0x3F733333#32 * v + Ideal.ofBits .f32 0x3D4CCCCD#32 * (g * g)
/-- The update from a gradient, a weight and two moments. -/
def u (g w x y : EReal) : EReal :=
  Ideal.ofBits .f32 0x3C23D70A#32 *
    (Ideal.div (m g x * corr1) (Ideal.sqrt (v g y * corr2) + Ideal.ofBits .f32 0x322BCC77#32) + Ideal.ofBits .f32 0x3DCCCCCD#32 * w)
/-- The new weight. -/
def w (g w x y : EReal) : EReal := w - u g w x y

/-- The largest magnitude of a 128 × 128 block over 448. -/
def top (f : Fin 128 → Fin 128 → EReal) : EReal := (⨆ r, ⨆ l, max (f r l) (-f r l)) * Ideal.ofBits .f32 0x3B124925#32

/-- The scale of a block. -/
def scale (f : Fin 128 → Fin 128 → EReal) : EReal := (((2 : ℝ) ^ Quant.expo (top f) : ℝ) : EReal)

/-- The code of an entry `x` of a block. -/
def code (f : Fin 128 → Fin 128 → EReal) (x : EReal) : EReal :=
  min (Ideal.ofBits .f32 0x43E00000#32) (max (Ideal.ofBits .f32 0xC3E00000#32) (x * (((2 : ℝ) ^ (-Quant.expo (top f)) : ℝ) : EReal)))

end Cert.Spec

end
-- ==== Proof.Grad.lean ====
/-
  The product of the kernel's body read over the extended reals: the left operand holds, in row `r`, the scale of rank `k`
  at column `32 k + r` and zeros elsewhere, so an entry of the product is a sum over the ranks of scale times code.
-/
module

public import proofs.«01_k».proof.Proof.Body
public import Idealize.ShloMosaic.Lib.Pointwise

@[expose] public section

noncomputable section

namespace Cert.KernelIdeal.Body

open Cert.KernelIdeal Idealize.ShloMosaic Idealize.SL.Sem
open Facts₀ Facts

variable (x0 : Vec Ideal S64x128x1536 .fp8e5m2) (x1 : Vec Ideal S12x64x128 .f32)

/-- Row `t`, lane `l` of the scales at the ranks that are `i` modulo 4 is the scale of rank `4 t + i`. -/
theorem part_apply (b : Fin 12) (i : Fin 4) (t : Fin 16) (l : Fin 128) :
    part x1 b i (ix2 t l) = x1 (ix3 b ⟨4 * t.val + i.val, by omega⟩ l) := by
  unfold part
  refine (shapeCast_apply (s := S1x16x128) (t := S16x128) _ _ (ix2 t l) (ix3 (0 : Fin 1) t l) (by
    rw [Shape.rowMajor_val_two, Shape.rowMajor_val_three]
    show (0 * 16 + t.val) * 128 + l.val = t.val * 128 + l.val
    omega)).trans ?_
  refine congrArg x1 (funext fun a => Fin.ext ?_)
  match a with
  | ⟨0, _⟩ => show b.val + 1 * 0 = b.val; omega
  | ⟨1, _⟩ => show i.val + 4 * t.val = 4 * t.val + i.val; omega
  | ⟨2, _⟩ => show 0 + 1 * l.val = l.val; omega

/-- A rotation by `n` lanes reads `n` lanes further left, around the end. -/
theorem turn_apply (n : ℕ) (hn : n < 128) (x : FVec Ideal S16x128 .f32) (t : Fin 16) (l : Fin 128) :
    turn n x (ix2 t l) = x (ix2 t ⟨(l.val + (128 - n)) % 128, Nat.mod_lt _ (by norm_num)⟩) := by
  match n, hn with
  | 0, _ =>
    unfold turn
    refine congrArg x (congrArg (ix2 t) (Fin.ext ?_))
    show l.val = (l.val + 128) % 128
    omega
  | k + 1, hk =>
    unfold turn
    pointwise
    refine congrArg x (congrArg (ix2 t) (Fin.ext ?_))
    simp only [BitVec.toNat_ofNat]
    omega

/-- The comparison of the lane with a number below 128. -/
theorem from_apply (n : ℕ) (hn : n < 128) (t : Fin 16) (l : Fin 128) :
    from_ (BitVec.ofNat 32 n) (ix2 t l) = BitVec.ofBool (decide (n ≤ l.val)) := by
  unfold from_
  pointwise
  have h1 : (BitVec.ofNat 32 l.val).toInt = l.val := by
    have := l.isLt
    rw [BitVec.toInt_eq_toNat_of_lt] <;> rw [BitVec.toNat_ofNat] <;> omega
  have h2 : (BitVec.ofNat 32 n).toInt = n := by
    rw [BitVec.toInt_eq_toNat_of_lt] <;> rw [BitVec.toNat_ofNat] <;> omega
  show BitVec.ofBool (decide _) = _
  rw [h1, h2]
  simp

/-- The lane modulo 32 against the row plus `h`. -/
theorem mask_apply (h : ℕ) (hh : h < 32) (r : Fin 16) (l : Fin 128) :
    mask (BitVec.ofNat 32 h) (ix2 r l) = BitVec.ofBool (decide (l.val % 32 = r.val + h)) := by
  have hr := r.isLt
  have hl := l.isLt
  unfold mask
  pointwise
  have e1 : IntOp.andi (BitVec.ofNat 32 l.val) 31#32 = BitVec.ofNat 32 (l.val % 32) := by
    apply BitVec.eq_of_toNat_eq
    show (BitVec.ofNat 32 l.val &&& 31#32).toNat = _
    rw [BitVec.toNat_and, BitVec.toNat_ofNat, BitVec.toNat_ofNat, BitVec.toNat_ofNat,
      Nat.mod_eq_of_lt (show l.val < 2 ^ 32 by omega), show 31 % 2 ^ 32 = 2 ^ 5 - 1 by norm_num, Nat.and_two_pow_sub_one_eq_mod]
    omega
  have e2 : IntOp.addi (BitVec.ofNat 32 r.val) (BitVec.ofNat 32 h) = BitVec.ofNat 32 (r.val + h) :=
    (BitVec.ofNat_add _ _).symm
  rw [e1, e2]
  show BitVec.ofBool (decide _) = _
  congr 1
  refine decide_eq_decide.mpr ⟨fun e => ?_, fun e => by rw [e]⟩
  have := congrArg BitVec.toNat e
  simp only [BitVec.toNat_ofNat] at this
  omega

/-- Row `t`, lane `l` of the spread scales is the scale of rank `4 t + l / 32` in row `l % 32` of the group. -/
theorem spread_apply (b : Fin 12) (q : Fin 4) (t : Fin 16) (l : Fin 128) :
    spread x1 b q (ix2 t l) =
      x1 (ix3 b ⟨4 * t.val + l.val / 32, by omega⟩ ⟨32 * q.val + l.val % 32, by omega⟩) := by
  have hq := q.isLt
  have hl := l.isLt
  have key : ∀ i : Fin 4, l.val / 32 = i.val →
      x1 (ix3 b ⟨4 * t.val + i.val, by omega⟩ ⟨(l.val + (128 - 32 * ((i.val + 4 - q.val) % 4))) % 128, by omega⟩) =
        x1 (ix3 b ⟨4 * t.val + l.val / 32, by omega⟩ ⟨32 * q.val + l.val % 32, by omega⟩) := by
    intro i hi
    have := i.isLt
    congr 2
    · exact Fin.ext (by simp only [hi])
    · exact Fin.ext (by simp only []; omega)
  unfold spread
  pointwise
  rw [show (96#32) = BitVec.ofNat 32 96 from rfl, from_apply 96 (by norm_num), from_apply 64 (by norm_num), from_apply 32 (by norm_num)]
  simp only [turn_apply _ (show 32 * ((7 - q.val) % 4) < 128 by omega), turn_apply _ (show 32 * ((6 - q.val) % 4) < 128 by omega),
    turn_apply _ (show 32 * ((5 - q.val) % 4) < 128 by omega), turn_apply _ (show 32 * ((4 - q.val) % 4) < 128 by omega), part_apply]
  by_cases h3 : 96 ≤ l.val
  · rw [decide_eq_true h3]
    exact key 3 (by show l.val / 32 = 3; omega)
  rw [decide_eq_false h3]
  by_cases h2 : 64 ≤ l.val
  · rw [decide_eq_true h2]
    exact key 2 (by show l.val / 32 = 2; omega)
  rw [decide_eq_false h2]
  by_cases h1 : 32 ≤ l.val
  · rw [decide_eq_true h1]
    exact key 1 (by show l.val / 32 = 1; omega)
  rw [decide_eq_false h1]
  exact key 0 (by show l.val / 32 = 0; omega)

/-- An entry of one tile of the left operand. -/
theorem tile_apply (s : FVec Ideal S16x128 .bf16) (t : Fin 16) (r : Fin 32) (l : Fin 128) :
    tile s t (ix2 r l) = if l.val % 32 = r.val then s (ix2 t l) else 0 := by
  have hz : ∀ k, (zero : FVec Ideal S16x128 .bf16) k = 0 := fun k => by
    show Ideal.ofBits .bf16 0x0000#16 = 0
    simp [Ideal.ofBits, Ideal.ieee]
  have hs : ∀ p : Prop, ∀ [Decidable p], ∀ u : EReal, Scalar.select (BitVec.ofBool (decide p)) u 0 = if p then u else 0 := by
    intro p _ u
    by_cases h : p <;> simp [h, Scalar.select]
  unfold tile rowOf
  pointwise
  simp only [hz, mask_apply 0 (by norm_num), mask_apply 16 (by norm_num), hs]
  split
  · simp only [Nat.add_zero]
  · simp only [show (r.val - 16 + 16 = r.val) by omega]

/-- An entry of the left operand. -/
theorem lhs_apply (s : FVec Ideal S16x128 .bf16) (r : Fin 32) (j : Fin 2048) :
    lhs s (ix2 r j) = if j.val % 32 = r.val then s (ix2 ⟨j.val / 128, by omega⟩ ⟨j.val % 128, by omega⟩) else 0 := by
  have e : lhs s (ix2 r j) = tile s ⟨j.val / 128, by omega⟩ (ix2 r ⟨j.val % 128, by omega⟩) := by
    unfold lhs
    refine concatenate_ofFn_apply (s₁ := S32x128) (t := S32x2048) 1 (fun t : Fin 16 => tile s t) _ rfl 128 rfl (ix2 r j) ⟨j.val / 128, by omega⟩ rfl
      (ix2 r ⟨j.val % 128, by omega⟩) rfl ?_
    intro c hc
    fin_cases c
    · rfl
    · exact absurd rfl hc
  rw [e, tile_apply]
  simp only [show j.val % 128 % 32 = j.val % 32 by omega]

/-- An entry of the mean gradient: the sum over the ranks of scale times code, over the number of ranks. -/
theorem grad_apply (b : Fin 12) (q : Fin 4) (r : Fin 32) (l : Fin 128) :
    grad x0 x1 b q (ix2 r l) =
      (∑ k : Fin 64, x1 (ix3 b k ⟨32 * q.val + r.val, by omega⟩) *
        x0 (ix3 k ⟨32 * q.val + r.val, by omega⟩ ⟨128 * b.val + l.val, by omega⟩)) * Ideal.ofBits .f32 0x3C800000#32 := by
  have hb := b.isLt
  have hq := q.isLt
  have hr := r.isLt
  have hl := l.isLt
  have hc : ∀ j : Fin 2048, (shapeCast S2048x128 (View.ld x0 (codeRect b q)) shapeCasts_S64x32x128_S2048x128 : FVec Ideal S2048x128 .fp8e5m2)
      (ix2 j l) = x0 (ix3 ⟨j.val / 32, by omega⟩ ⟨32 * q.val + j.val % 32, by omega⟩ ⟨128 * b.val + l.val, by omega⟩) := by
    intro j
    refine (shapeCast_apply (s := S64x32x128) (t := S2048x128) _ _ (ix2 j l) (ix3 (⟨j.val / 32, by omega⟩ : Fin 64) (⟨j.val % 32, by omega⟩ : Fin 32) l) (by
      rw [Shape.rowMajor_val_two, Shape.rowMajor_val_three]
      show (j.val / 32 * 32 + j.val % 32) * 128 + l.val = j.val * 128 + l.val
      omega)).trans ?_
    refine congrArg x0 (funext fun a => Fin.ext ?_)
    match a with
    | ⟨0, _⟩ => show 0 + 1 * (j.val / 32) = j.val / 32; omega
    | ⟨1, _⟩ => show 32 * q.val + 1 * (j.val % 32) = 32 * q.val + j.val % 32; omega
    | ⟨2, _⟩ => show 128 * b.val + 1 * l.val = 128 * b.val + l.val; omega
  have hz : (constant S32x128 .f32 0x00000000#32 : FVec Ideal S32x128 .f32) (ix2 r l) = 0 := by
    show Ideal.ofBits .f32 0x00000000#32 = 0
    simp [Ideal.ofBits, Ideal.ieee]
  unfold grad
  show (matmul dot_S32x2048_S2048x128_S32x128_1_0_0_1_n_n none (lhs (spread x1 b q)) _ _ : FVec Ideal S32x128 .f32) (ix2 r l) * _ = _
  congr 1
  rw [show (matmul dot_S32x2048_S2048x128_S32x128_1_0_0_1_n_n none (lhs (spread x1 b q))
      (shapeCast S2048x128 (View.ld x0 (codeRect b q)) shapeCasts_S64x32x128_S2048x128 : FVec Ideal S2048x128 .fp8e5m2)
      (constant S32x128 .f32 0x00000000#32) : FVec Ideal S32x128 .f32) (ix2 r l) = _ from
    Ideal.matmul_apply₁_of _ rfl (K := 2048) rfl _ _ _ (ix2 r l) (fun k => ix2 r k) (fun k => ix2 k l) (fun k => ?_) (fun k => ?_)]
  · rw [hz, zero_add, Fin.sum_univ_tiles 64 32 rfl]
    refine Finset.sum_congr rfl fun k _ => ?_
    have hk := k.isLt
    simp only [hc, lhs_apply, spread_apply]
    rw [Finset.sum_eq_single r]
    · rw [if_pos (by show (k.val * 32 + r.val) % 32 = r.val; omega)]
      congr 3 <;> first | rfl | exact Fin.ext (by simp only []; omega)
    · intro t _ ht
      have := t.isLt
      have hne : t.val ≠ r.val := fun e => ht (Fin.ext e)
      rw [if_neg (by show ¬(k.val * 32 + t.val) % 32 = r.val; omega), zero_mul]
    · intro h; exact absurd (Finset.mem_univ r) h
  · funext a
    match a with
    | ⟨0, _⟩ => rfl
    | ⟨1, _⟩ => rfl
  · funext a
    match a with
    | ⟨0, _⟩ => rfl
    | ⟨1, _⟩ => rfl

end Cert.KernelIdeal.Body

end
-- ==== Proof.Step.lean ====
/-
  The cells and blocks of the kernel's body read over the extended reals, entry by entry.
-/
module

public import proofs.«01_k».proof.Proof.Spec
public import proofs.«01_k».proof.Proof.Grad

@[expose] public section

noncomputable section

namespace Cert.KernelIdeal.Body

open Cert.KernelIdeal Idealize.ShloMosaic Idealize.SL.Sem
open Facts₀ Facts

/-- A cell of an array, entry by entry. -/
theorem ld_cell (x : Vec Ideal S128x1536 .f32) (b : Fin 12) (q : Fin 4) (r : Fin 32) (l : Fin 128) :
    (View.ld x (cell b q) : Vec Ideal S32x128 .f32) (ix2 r l) =
      x (ix2 (⟨32 * q.val + r.val, by omega⟩ : Fin 128) (⟨128 * b.val + l.val, by omega⟩ : Fin 1536)) := by
  refine congrArg x (funext fun a => Fin.ext ?_)
  match a with
  | ⟨0, _⟩ => show 32 * q.val + 1 * r.val = 32 * q.val + r.val; omega
  | ⟨1, _⟩ => show 128 * b.val + 1 * l.val = 128 * b.val + l.val; omega

variable (x0 : Vec Ideal S64x128x1536 .fp8e5m2) (x1 : Vec Ideal S12x64x128 .f32) (x2 x3 x4 : Vec Ideal S128x1536 .f32)

/-- The mean gradient of a row block, at row `r` and column `j`. -/
def rowG (r : Fin 128) (j : Fin 1536) : EReal :=
  (∑ k : Fin 64, x1 (ix3 (⟨j.val / 128, by omega⟩ : Fin 12) k r) * x0 (ix3 k r j)) * Ideal.ofBits .f32 0x3C800000#32
/-- The new first moment of a row block. -/
def rowM (r : Fin 128) (j : Fin 1536) : EReal := Spec.m (rowG x0 x1 r j) (x3 (ix2 r j))
/-- The new second moment of a row block. -/
def rowV (r : Fin 128) (j : Fin 1536) : EReal := Spec.v (rowG x0 x1 r j) (x4 (ix2 r j))
/-- The update of a row block. -/
def rowU (r : Fin 128) (j : Fin 1536) : EReal := Spec.u (rowG x0 x1 r j) (x2 (ix2 r j)) (x3 (ix2 r j)) (x4 (ix2 r j))
/-- The new weights of a row block. -/
def rowW (r : Fin 128) (j : Fin 1536) : EReal := Spec.w (rowG x0 x1 r j) (x2 (ix2 r j)) (x3 (ix2 r j)) (x4 (ix2 r j))

variable (b : Fin 12) (q : Fin 4) (r : Fin 32) (l : Fin 128)

/-- Column `l` of column block `b`. -/
def col (b : Fin 12) (l : Fin 128) : Fin 1536 := ⟨128 * b.val + l.val, by omega⟩
/-- Row `r` of row group `q`. -/
def row (q : Fin 4) (r : Fin 32) : Fin 128 := ⟨32 * q.val + r.val, by omega⟩

theorem grad_eq : grad x0 x1 b q (ix2 r l) = rowG x0 x1 (row q r) (col b l) := by
  rw [grad_apply, rowG]
  have : (⟨(col b l).val / 128, by omega⟩ : Fin 12) = b := Fin.ext (by show (128 * b.val + l.val) / 128 = b.val; omega)
  rw [this]
  rfl

theorem cellM_eq : cellM x0 x1 x3 b q (ix2 r l) = rowM x0 x1 x3 (row q r) (col b l) := by
  show Ideal.ofBits .f32 0x3F666666#32 * (View.ld x3 (cell b q) : Vec Ideal S32x128 .f32) (ix2 r l) + Ideal.ofBits .f32 0x3DCCCCCD#32 * grad x0 x1 b q (ix2 r l) = _
  rw [ld_cell, grad_eq]
  rfl

theorem cellV_eq : cellV x0 x1 x4 b q (ix2 r l) = rowV x0 x1 x4 (row q r) (col b l) := by
  show Ideal.ofBits .f32 0x3F733333#32 * (View.ld x4 (cell b q) : Vec Ideal S32x128 .f32) (ix2 r l) +
    Ideal.ofBits .f32 0x3D4CCCCD#32 * (grad x0 x1 b q (ix2 r l) * grad x0 x1 b q (ix2 r l)) = _
  rw [ld_cell, grad_eq]
  rfl

theorem cellU_eq : cellU x0 x1 x2 x3 x4 b q (ix2 r l) = rowU x0 x1 x2 x3 x4 (row q r) (col b l) := by
  show Ideal.ofBits .f32 0x3C23D70A#32 *
    (Ideal.div (cellM x0 x1 x3 b q (ix2 r l) * Spec.corr1) (Ideal.sqrt (cellV x0 x1 x4 b q (ix2 r l) * Spec.corr2) + Ideal.ofBits .f32 0x322BCC77#32)
      + Ideal.ofBits .f32 0x3DCCCCCD#32 * (View.ld x2 (cell b q) : Vec Ideal S32x128 .f32) (ix2 r l)) = _
  rw [ld_cell, cellM_eq, cellV_eq]
  rfl

theorem cellW_eq : cellW x0 x1 x2 x3 x4 b q (ix2 r l) = rowW x0 x1 x2 x3 x4 (row q r) (col b l) := by
  show (View.ld x2 (cell b q) : Vec Ideal S32x128 .f32) (ix2 r l) - cellU x0 x1 x2 x3 x4 b q (ix2 r l) = _
  rw [ld_cell, cellU_eq]
  rfl

theorem ofBits_bot : Ideal.ofBits .f32 0xFF800000#32 = ⊥ := by simp [Ideal.ofBits, Ideal.ieee]

/-- The largest magnitude in a column of a cell. -/
theorem peak_eq : peak x0 x1 x2 x3 x4 b q (ix2 0 l) =
    ⨆ r : Fin 32, max (rowW x0 x1 x2 x3 x4 (row q r) (col b l)) (-rowW x0 x1 x2 x3 x4 (row q r) (col b l)) := by
  have h : ∀ r : Fin 32, cellW x0 x1 x2 x3 x4 b q (ix2 r l) = rowW x0 x1 x2 x3 x4 (row q r) (col b l) := fun r => cellW_eq x0 x1 x2 x3 x4 b q r l
  unfold peak
  revert h
  generalize cellW x0 x1 x2 x3 x4 b q = c
  intro h
  pointwise
  rw [ofBits_bot]
  refine eq_of_forall_ge_iff fun z => ?_
  rw [Finset.fold_max_le, iSup_le_iff]
  simp only [bot_le, Finset.mem_univ, true_and, forall_true_left]
  refine forall_congr' fun r => ?_
  rw [← h r]
  rfl

/-- The largest magnitude of a block over 448. -/
theorem amax_eq : amax x0 x1 x2 x3 x4 b (ix2 0 0) = Spec.top fun r l => rowW x0 x1 x2 x3 x4 r (col b l) := by
  have h : ∀ q l, peak x0 x1 x2 x3 x4 b q (ix2 0 l) =
    ⨆ r : Fin 32, max (rowW x0 x1 x2 x3 x4 (row q r) (col b l)) (-rowW x0 x1 x2 x3 x4 (row q r) (col b l)) := fun q l => peak_eq x0 x1 x2 x3 x4 b q l
  unfold amax
  revert h
  generalize peak x0 x1 x2 x3 x4 b = c
  intro h
  pointwise
  rw [ofBits_bot, Spec.top]
  congr 1
  refine eq_of_forall_ge_iff fun z => ?_
  rw [Finset.fold_max_le]
  simp only [bot_le, Finset.mem_univ, true_and, forall_true_left, h, max_le_iff, iSup_le_iff]
  constructor
  · intro hx r l
    have hr := r.isLt
    obtain ⟨⟨⟨h0, h1⟩, h2⟩, h3⟩ := hx l
    have e : ∀ q : Fin 4, ∀ hq : r.val / 32 = q.val, row q ⟨r.val % 32, by omega⟩ = r := fun q hq =>
      Fin.ext (by show 32 * q.val + r.val % 32 = r.val; omega)
    have hc : r.val / 32 = 0 ∨ r.val / 32 = 1 ∨ r.val / 32 = 2 ∨ r.val / 32 = 3 := by omega
    rcases hc with hq | hq | hq | hq
    · have := h0 ⟨r.val % 32, by omega⟩; rwa [e 0 hq] at this
    · have := h1 ⟨r.val % 32, by omega⟩; rwa [e 1 hq] at this
    · have := h2 ⟨r.val % 32, by omega⟩; rwa [e 2 hq] at this
    · have := h3 ⟨r.val % 32, by omega⟩; rwa [e 3 hq] at this
  · intro hx l
    exact ⟨⟨⟨fun r => hx _ l, fun r => hx _ l⟩, fun r => hx _ l⟩, fun r => hx _ l⟩

/-- A largest magnitude isn't negative. -/
theorem top_nonneg (f : Fin 128 → Fin 128 → EReal) : 0 ≤ Spec.top f := by
  have h0 : ∀ x : EReal, 0 ≤ max x (-x) := fun x => by
    rcases le_total 0 x with h | h
    · exact le_max_of_le_left h
    · exact le_max_of_le_right (EReal.neg_nonneg.mpr h)
  refine mul_nonneg ((h0 (f 0 0)).trans (le_iSup_of_le 0 (le_iSup_of_le 0 le_rfl))) ?_
  have : Ideal.ofBits .f32 0x3B124925#32 = ((9586981 / 4294967296 : ℝ) : EReal) := by
    simp [Ideal.ofBits, Ideal.ieee]
    rw [← EReal.coe_mul]
    norm_num
  rw [this]
  exact EReal.coe_nonneg.mpr (by norm_num)

/-- The scale of a block. -/
theorem scale_eq : scale (amax x0 x1 x2 x3 x4 b) (ix2 0 0) = Spec.scale fun r l => rowW x0 x1 x2 x3 x4 r (col b l) := by
  rw [scale_apply _ (by rw [amax_eq]; exact top_nonneg _), amax_eq]
  rfl

/-- The codes of a block. -/
theorem codes_eq (w : Vec Ideal S128x128 .f32) (r l : Fin 128) : codes (amax x0 x1 x2 x3 x4 b) w (ix2 r l) =
    Spec.code (fun r l => rowW x0 x1 x2 x3 x4 r (col b l)) (w (ix2 r l)) := by
  have hi := inv_apply (amax x0 x1 x2 x3 x4 b) (by rw [amax_eq]; exact top_nonneg _)
  rw [amax_eq] at hi
  unfold codes
  pointwise
  rw [hi]
  rfl

/-- A row of scales with one put in. -/
theorem put_apply (a : FVec Ideal S1x1 .f32) (b : Fin 12) (row : FVec Ideal S1x128 .f32) (l : Fin 128) :
    put a (BitVec.ofNat 32 b.val) row (ix2 0 l) = if l.val = b.val then scale a (ix2 0 0) else row (ix2 0 l) := by
  have hb := b.isLt
  have hl := l.isLt
  unfold put
  pointwise
  have hiff : (BitVec.ofNat 32 l.val == BitVec.ofNat 32 b.val) = decide (l.val = b.val) := by
    rw [Bool.eq_iff_iff, beq_iff_eq, decide_eq_true_iff, ← BitVec.toNat_inj, BitVec.toNat_ofNat, BitVec.toNat_ofNat]
    omega
  show Scalar.select (BitVec.ofBool (BitVec.ofNat 32 l.val == BitVec.ofNat 32 b.val)) _ _ = _
  rw [hiff]
  by_cases h : l.val = b.val
  · rw [if_pos h, decide_eq_true h]; rfl
  · rw [if_neg h, decide_eq_false h]; rfl

/-- The row of scales: lane `l` holds the scale of column block `l`, and zero where there is none. -/
theorem scaleRow_apply (a : Fin 12 → FVec Ideal S1x1 .f32) (l : Fin 128) :
    scaleRow a (ix2 0 l) = if h : l.val < 12 then scale (a ⟨l.val, h⟩) (ix2 0 0) else 0 := by
  have hz : (broadcast S1x128 (Scalar.ofBits .f32 0x00000000#32) : FVec Ideal S1x128 .f32) (ix2 0 l) = 0 := by
    show Ideal.ofBits .f32 0x00000000#32 = 0
    simp [Ideal.ofBits, Ideal.ieee]
  have hp : ∀ (b : Fin 12) (w : BitVec 32) (_ : w = BitVec.ofNat 32 b.val) (row : FVec Ideal S1x128 .f32),
      put (a b) w row (ix2 0 l) = if l.val = b.val then scale (a b) (ix2 0 0) else row (ix2 0 l) := fun b w e row => by
    rw [e]; exact put_apply (a b) b row l
  unfold scaleRow
  rw [hp 11 11#32 rfl, hp 10 10#32 rfl, hp 9 9#32 rfl, hp 8 8#32 rfl, hp 7 7#32 rfl, hp 6 6#32 rfl, hp 5 5#32 rfl, hp 4 4#32 rfl, hp 3 3#32 rfl, hp 2 2#32 rfl, hp 1 1#32 rfl,
    hp 0 0#32 rfl, hz]
  by_cases h : l.val < 12
  · rw [dif_pos h]
    have e : ∀ n : Fin 12, (if n.val = (11 : Fin 12).val then scale (a 11) (ix2 0 0) else if n.val = (10 : Fin 12).val then scale (a 10) (ix2 0 0)
        else if n.val = (9 : Fin 12).val then scale (a 9) (ix2 0 0) else if n.val = (8 : Fin 12).val then scale (a 8) (ix2 0 0)
        else if n.val = (7 : Fin 12).val then scale (a 7) (ix2 0 0) else if n.val = (6 : Fin 12).val then scale (a 6) (ix2 0 0)
        else if n.val = (5 : Fin 12).val then scale (a 5) (ix2 0 0) else if n.val = (4 : Fin 12).val then scale (a 4) (ix2 0 0)
        else if n.val = (3 : Fin 12).val then scale (a 3) (ix2 0 0) else if n.val = (2 : Fin 12).val then scale (a 2) (ix2 0 0)
        else if n.val = (1 : Fin 12).val then scale (a 1) (ix2 0 0) else if n.val = (0 : Fin 12).val then scale (a 0) (ix2 0 0) else 0) =
        scale (a n) (ix2 0 0) := fun n => by fin_cases n <;> rfl
    exact e ⟨l.val, h⟩
  · rw [dif_neg h]
    have e : ∀ n : Fin 12, ¬ l.val = n.val := fun n hn => h (hn ▸ n.isLt)
    simp only [e, if_false]

end Cert.KernelIdeal.Body

end
-- ==== Proof.Pieces.lean ====
/-
  The stores of the kernel's one run, output by output, are the generic stores of `Body.lean`: by computation, with each
  input buffer read back from where the run put it.
-/
module
public import proofs.«01_k».proof.Proof.Body
public import proofs.«01_k».proof.Proof.Gen.KernelIdeal.Frame

@[expose] public section

set_option maxRecDepth 16384

noncomputable section

namespace Cert.KernelIdeal.Body
open Cert.KernelIdeal Cert.KernelIdeal.Gen Idealize.ShloMosaic Idealize.ShloMosaic.Tactic Idealize.SL.Sem
open Facts₀ Facts
variable {F : FTy → Type} [FloatOps F] [Named F]
variable (c : Dev nD) (i : grid0.Coords) (arg1 : Memref sig .tc .vmem S64x128x1536 .fp8e5m2) (harg1 : arg1.IsWhole) (arg2 : Memref sig .tc .vmem S12x64x128 .f32) (harg2 : arg2.IsWhole) (arg3 : Memref sig .tc .vmem S128x1536 .f32) (harg3 : arg3.IsWhole) (arg4 : Memref sig .tc .vmem S128x1536 .f32) (harg4 : arg4.IsWhole) (arg5 : Memref sig .tc .vmem S128x1536 .f32) (harg5 : arg5.IsWhole) (arg6 : Memref sig .tc .vmem S128x1536 .f32) (harg6 : arg6.IsWhole) (arg7 : Memref sig .tc .vmem S128x1536 .f32) (harg7 : arg7.IsWhole) (arg8 : Memref sig .tc .vmem S128x1536 .f32) (harg8 : arg8.IsWhole) (arg9 : Memref sig .tc .vmem S128x1536 .f32) (harg9 : arg9.IsWhole) (arg10 : Memref sig .tc .vmem S128x1536 .fp8e4m3) (harg10 : arg10.IsWhole) (arg11 : Memref sig .tc .vmem S1x1x128 .f32) (harg11 : arg11.IsWhole)
    (x0 : Vec F S64x128x1536 .fp8e5m2) (x1 : Vec F S12x64x128 .f32) (x2 : Vec F S128x1536 .f32) (x3 : Vec F S128x1536 .f32) (x4 : Vec F S128x1536 .f32)

/-- The stores of the new weights, with each input buffer read back from where the run put it. -/
theorem w_read :
    (kernelRun0_A c i arg1 harg1 arg2 harg2 arg3 harg3 arg4 harg4 arg5 harg5 arg6 harg6 arg7 harg7 arg8 harg8 arg9 harg9 arg10 harg10 arg11 harg11 x0 x1 x2 x3 x4).1 =
      cells blocks (cellW (arg1.view.read (Elt F) (harg1.unread x0)) (arg2.view.read (Elt F) (harg2.unread x1)) (arg3.view.read (Elt F) (harg3.unread x2)) (arg4.view.read (Elt F) (harg4.unread x3)) (arg5.view.read (Elt F) (harg5.unread x4))) := by
  unfold kernelRun0_A
  rfl

/-- The stores of the new weights. -/
theorem w_pieces :
    (kernelRun0_A c i arg1 harg1 arg2 harg2 arg3 harg3 arg4 harg4 arg5 harg5 arg6 harg6 arg7 harg7 arg8 harg8 arg9 harg9 arg10 harg10 arg11 harg11 x0 x1 x2 x3 x4).1 =
      cells blocks (cellW x0 x1 x2 x3 x4) := by
  rw [w_read]
  simp only [Memref.IsWhole.read_unread]

/-- The stores of the new first moment, with each input buffer read back from where the run put it. -/
theorem m_read :
    (kernelRun0_A c i arg1 harg1 arg2 harg2 arg3 harg3 arg4 harg4 arg5 harg5 arg6 harg6 arg7 harg7 arg8 harg8 arg9 harg9 arg10 harg10 arg11 harg11 x0 x1 x2 x3 x4).2.1 =
      cells blocks (cellM (arg1.view.read (Elt F) (harg1.unread x0)) (arg2.view.read (Elt F) (harg2.unread x1)) (arg4.view.read (Elt F) (harg4.unread x3))) := by
  unfold kernelRun0_A
  rfl

/-- The stores of the new first moment. -/
theorem m_pieces :
    (kernelRun0_A c i arg1 harg1 arg2 harg2 arg3 harg3 arg4 harg4 arg5 harg5 arg6 harg6 arg7 harg7 arg8 harg8 arg9 harg9 arg10 harg10 arg11 harg11 x0 x1 x2 x3 x4).2.1 =
      cells blocks (cellM x0 x1 x3) := by
  rw [m_read]
  simp only [Memref.IsWhole.read_unread]

/-- The stores of the new second moment, with each input buffer read back from where the run put it. -/
theorem v_read :
    (kernelRun0_A c i arg1 harg1 arg2 harg2 arg3 harg3 arg4 harg4 arg5 harg5 arg6 harg6 arg7 harg7 arg8 harg8 arg9 harg9 arg10 harg10 arg11 harg11 x0 x1 x2 x3 x4).2.2.1 =
      cells blocks (cellV (arg1.view.read (Elt F) (harg1.unread x0)) (arg2.view.read (Elt F) (harg2.unread x1)) (arg5.view.read (Elt F) (harg5.unread x4))) := by
  unfold kernelRun0_A
  rfl

/-- The stores of the new second moment. -/
theorem v_pieces :
    (kernelRun0_A c i arg1 harg1 arg2 harg2 arg3 harg3 arg4 harg4 arg5 harg5 arg6 harg6 arg7 harg7 arg8 harg8 arg9 harg9 arg10 harg10 arg11 harg11 x0 x1 x2 x3 x4).2.2.1 =
      cells blocks (cellV x0 x1 x4) := by
  rw [v_read]
  simp only [Memref.IsWhole.read_unread]

/-- The stores of the update, with each input buffer read back from where the run put it. -/
theorem upd_read :
    (kernelRun0_A c i arg1 harg1 arg2 harg2 arg3 harg3 arg4 harg4 arg5 harg5 arg6 harg6 arg7 harg7 arg8 harg8 arg9 harg9 arg10 harg10 arg11 harg11 x0 x1 x2 x3 x4).2.2.2.1 =
      cells blocks (cellU (arg1.view.read (Elt F) (harg1.unread x0)) (arg2.view.read (Elt F) (harg2.unread x1)) (arg3.view.read (Elt F) (harg3.unread x2)) (arg4.view.read (Elt F) (harg4.unread x3)) (arg5.view.read (Elt F) (harg5.unread x4))) := by
  unfold kernelRun0_A
  rfl

/-- The stores of the update. -/
theorem upd_pieces :
    (kernelRun0_A c i arg1 harg1 arg2 harg2 arg3 harg3 arg4 harg4 arg5 harg5 arg6 harg6 arg7 harg7 arg8 harg8 arg9 harg9 arg10 harg10 arg11 harg11 x0 x1 x2 x3 x4).2.2.2.1 =
      cells blocks (cellU x0 x1 x2 x3 x4) := by
  rw [upd_read]
  simp only [Memref.IsWhole.read_unread]

/-- The stores of the codes, with each input buffer read back from where the run put it. -/
theorem codes_read :
    (kernelRun0_A c i arg1 harg1 arg2 harg2 arg3 harg3 arg4 harg4 arg5 harg5 arg6 harg6 arg7 harg7 arg8 harg8 arg9 harg9 arg10 harg10 arg11 harg11 x0 x1 x2 x3 x4).2.2.2.2.1 =
      columns fun b => codes (amax (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) b) (arg6.view.readCov (cells (blocks.drop (11 - b.val)) (cellW (arg1.view.read (Elt F) (harg1.unread x0)) (arg2.view.read (Elt F) (harg2.unread x1)) (arg3.view.read (Elt F) (harg3.unread x2)) (arg4.view.read (Elt F) (harg4.unread x3)) (arg5.view.read (Elt F) (harg5.unread x4)))) (column b).toLoadRect) := by
  unfold kernelRun0_A
  rfl

/-- The stores of the codes. -/
theorem codes_pieces :
    (kernelRun0_A c i arg1 harg1 arg2 harg2 arg3 harg3 arg4 harg4 arg5 harg5 arg6 harg6 arg7 harg7 arg8 harg8 arg9 harg9 arg10 harg10 arg11 harg11 x0 x1 x2 x3 x4).2.2.2.2.1 =
      columns fun b => codes (amax x0 x1 x2 x3 x4 b) (arg6.view.readCov (cells (blocks.drop (11 - b.val)) (cellW x0 x1 x2 x3 x4)) (column b).toLoadRect) := by
  rw [codes_read]
  simp only [Memref.IsWhole.read_unread]

/-- The stores of the scales, with each input buffer read back from where the run put it. -/
theorem scales_read :
    (kernelRun0_A c i arg1 harg1 arg2 harg2 arg3 harg3 arg4 harg4 arg5 harg5 arg6 harg6 arg7 harg7 arg8 harg8 arg9 harg9 arg10 harg10 arg11 harg11 x0 x1 x2 x3 x4).2.2.2.2.2.1 =
      scaleStore (scaleRow (amax (arg1.view.read (Elt F) (harg1.unread x0)) (arg2.view.read (Elt F) (harg2.unread x1)) (arg3.view.read (Elt F) (harg3.unread x2)) (arg4.view.read (Elt F) (harg4.unread x3)) (arg5.view.read (Elt F) (harg5.unread x4)))) := by
  unfold kernelRun0_A
  rfl

/-- The stores of the scales. -/
theorem scales_pieces :
    (kernelRun0_A c i arg1 harg1 arg2 harg2 arg3 harg3 arg4 harg4 arg5 harg5 arg6 harg6 arg7 harg7 arg8 harg8 arg9 harg9 arg10 harg10 arg11 harg11 x0 x1 x2 x3 x4).2.2.2.2.2.1 =
      scaleStore (scaleRow (amax x0 x1 x2 x3 x4)) := by
  rw [scales_read]
  simp only [Memref.IsWhole.read_unread]

end Cert.KernelIdeal.Body
end
-- ==== Proof.Blocks.lean ====
/-
  What one run of the kernel's body leaves in each of its six output blocks, entry by entry.
-/
module

public import proofs.«01_k».proof.Proof.Step
public import proofs.«01_k».proof.Proof.Pieces

@[expose] public section

noncomputable section

namespace Cert.KernelIdeal.Body

open Cert.KernelIdeal Idealize.ShloMosaic Idealize.SL.Sem
open Facts₀ Facts

/-- A two-axis index is its two coordinates. -/
theorem ix2_coords {n k : ℕ} (y : (⟨2, ![n, k]⟩ : Shape).Idx) : y = ix2 (y 0) (y 1) :=
  funext fun a => match a with
    | ⟨0, _⟩ => rfl
    | ⟨1, _⟩ => rfl

/-- The column block a column is in. -/
def blockOf (j : Fin 1536) : Fin 12 := ⟨j.val / 128, by omega⟩

theorem mem_cells {bs : List (Fin 12)} {f : Fin 12 → Fin 4 → Vec Ideal S32x128 .f32} {p : View.Piece (Elt Ideal) S128x1536 .f32}
    (hp : p ∈ cells bs f) : ∃ b q, p = ⟨cell b q, f b q⟩ := by
  obtain ⟨b, -, h⟩ := List.mem_flatMap.mp hp
  simp only [List.mem_cons, List.not_mem_nil, or_false] at h
  rcases h with h | h | h | h <;> exact ⟨_, _, h⟩

theorem cell_mem_cells {bs : List (Fin 12)} (f : Fin 12 → Fin 4 → Vec Ideal S32x128 .f32) {b : Fin 12} (hb : b ∈ bs) (q : Fin 4) :
    (⟨cell b q, f b q⟩ : View.Piece (Elt Ideal) S128x1536 .f32) ∈ cells bs f := by
  refine List.mem_flatMap.mpr ⟨b, hb, ?_⟩
  match q with
  | 0 => simp
  | 1 => simp
  | 2 => simp
  | 3 => simp

theorem cell_emb (b : Fin 12) (q : Fin 4) (r : Fin 32) (l : Fin 128) : (cell b q).emb (ix2 r l) = ix2 (row q r) (col b l) :=
  funext fun a => Fin.ext <| match a with
    | ⟨0, _⟩ => by show 32 * q.val + 1 * r.val = 32 * q.val + r.val; omega
    | ⟨1, _⟩ => by show 128 * b.val + 1 * l.val = 128 * b.val + l.val; omega

theorem column_emb (b : Fin 12) (r l : Fin 128) : (column b).emb (ix2 r l) = ix2 r (col b l) :=
  funext fun a => Fin.ext <| match a with
    | ⟨0, _⟩ => by show 0 + 1 * r.val = r.val; omega
    | ⟨1, _⟩ => by show 128 * b.val + 1 * l.val = 128 * b.val + l.val; omega

/-- Stores of cells that all hold the entries of one table leave that table in every column block stored. -/
theorem cells_canon (bs : List (Fin 12)) (f : Fin 12 → Fin 4 → Vec Ideal S32x128 .f32) (g : Fin 128 → Fin 1536 → EReal)
    (h : ∀ b q r l, f b q (ix2 r l) = g (row q r) (col b l)) (r : Fin 128) (j : Fin 1536) (hj : blockOf j ∈ bs) :
    View.canon (cells bs f) (ix2 r j) = g r j := by
  refine View.canon_apply_of_pieces (fun y : S128x1536.Idx => g (y 0) (y 1)) (cells bs f) ?_ (ix2 r j) ?_
  · intro p hp x
    obtain ⟨b, q, rfl⟩ := mem_cells hp
    have hx : x = ix2 (n0 := 32) (n1 := 128) (x 0) (x 1) := ix2_coords x
    rw [hx]
    exact (h b q (x 0) (x 1)).trans (congrArg (fun y : S128x1536.Idx => g (y 0) (y 1)) (cell_emb b q (x 0) (x 1)).symm)
  · refine ⟨_, cell_mem_cells f hj ⟨r.val / 32, by omega⟩, ?_⟩
    show ix2 r j ∈ (cell _ _).set
    unfold cell
    rw [Rect.mem_set_unit]
    intro a
    match a with
    | ⟨0, _⟩ => show 32 * (r.val / 32) ≤ r.val ∧ r.val < 32 * (r.val / 32) + 32; omega
    | ⟨1, _⟩ => show 128 * (j.val / 128) ≤ j.val ∧ j.val < 128 * (j.val / 128) + 128; omega

/-- The same of stores of whole columns. -/
theorem columns_canon (f : Fin 12 → Vec Ideal S128x128 .fp8e4m3) (g : Fin 128 → Fin 1536 → EReal)
    (h : ∀ b r l, f b (ix2 r l) = g r (col b l)) (r : Fin 128) (j : Fin 1536) :
    View.canon (columns f) (ix2 r j) = g r j := by
  refine View.canon_apply_of_pieces (fun y : S128x1536.Idx => g (y 0) (y 1)) (columns f) ?_ (ix2 r j) ?_
  · intro p hp x
    obtain ⟨b, -, rfl⟩ := List.mem_map.mp hp
    have hx : x = ix2 (n0 := 128) (n1 := 128) (x 0) (x 1) := ix2_coords x
    rw [hx]
    exact (h b (x 0) (x 1)).trans (congrArg (fun y : S128x1536.Idx => g (y 0) (y 1)) (column_emb b (x 0) (x 1)).symm)
  · have hb : ∀ b : Fin 12, b ∈ blocks := by decide
    refine ⟨_, List.mem_map.mpr ⟨blockOf j, hb _, rfl⟩, ?_⟩
    show ix2 r j ∈ (column _).set
    unfold column
    rw [Rect.mem_set_unit]
    intro a
    match a with
    | ⟨0, _⟩ => show 0 ≤ r.val ∧ r.val < 0 + 128; omega
    | ⟨1, _⟩ => show 128 * (j.val / 128) ≤ j.val ∧ j.val < 128 * (j.val / 128) + 128; omega

/-- The one store of the row of scales leaves that row. -/
theorem scaleStore_canon (s : FVec Ideal S1x128 .f32) (l : Fin 128) : View.canon (scaleStore s) (ix3 0 0 l) = s (ix2 0 l) := by
  unfold scaleStore
  rw [View.canon_unit_zero (by funext a; fin_cases a <;> rfl)]
  pointwise

theorem mem_blocks : ∀ b : Fin 12, b ∈ blocks := by decide

/-- The cells stored when column block `b` is read back include those of block `b`. -/
theorem mem_drop : ∀ b : Fin 12, b ∈ blocks.drop (11 - b.val) := by decide

theorem blockOf_col (b : Fin 12) (l : Fin 128) : blockOf (col b l) = b :=
  Fin.ext (by show (128 * b.val + l.val) / 128 = b.val; omega)

variable (c : Dev nD) (i : grid0.Coords) (arg1 : Memref sig .tc .vmem S64x128x1536 .fp8e5m2) (harg1 : arg1.IsWhole) (arg2 : Memref sig .tc .vmem S12x64x128 .f32) (harg2 : arg2.IsWhole) (arg3 : Memref sig .tc .vmem S128x1536 .f32) (harg3 : arg3.IsWhole) (arg4 : Memref sig .tc .vmem S128x1536 .f32) (harg4 : arg4.IsWhole) (arg5 : Memref sig .tc .vmem S128x1536 .f32) (harg5 : arg5.IsWhole) (arg6 : Memref sig .tc .vmem S128x1536 .f32) (harg6 : arg6.IsWhole) (arg7 : Memref sig .tc .vmem S128x1536 .f32) (harg7 : arg7.IsWhole) (arg8 : Memref sig .tc .vmem S128x1536 .f32) (harg8 : arg8.IsWhole) (arg9 : Memref sig .tc .vmem S128x1536 .f32) (harg9 : arg9.IsWhole) (arg10 : Memref sig .tc .vmem S128x1536 .fp8e4m3) (harg10 : arg10.IsWhole) (arg11 : Memref sig .tc .vmem S1x1x128 .f32) (harg11 : arg11.IsWhole)
    (x0 : Vec Ideal S64x128x1536 .fp8e5m2) (x1 : Vec Ideal S12x64x128 .f32) (x2 : Vec Ideal S128x1536 .f32) (x3 : Vec Ideal S128x1536 .f32) (x4 : Vec Ideal S128x1536 .f32)

/-- The block of new weights. -/
theorem out_w (r : Fin 128) (j : Fin 1536) : Gen.out0_A_5 c i arg1 harg1 arg2 harg2 arg3 harg3 arg4 harg4 arg5 harg5 arg6 harg6 arg7 harg7 arg8 harg8 arg9 harg9 arg10 harg10 arg11 harg11 x0 x1 x2 x3 x4 (ix2 r j) = rowW x0 x1 x2 x3 x4 r j := by
  unfold Gen.out0_A_5
  rw [View.read_writes_junk_eq_canon, w_pieces]
  exact cells_canon blocks (cellW x0 x1 x2 x3 x4) (rowW x0 x1 x2 x3 x4) (fun b q r l => cellW_eq x0 x1 x2 x3 x4 b q r l) r j (mem_blocks _)

/-- The block of new first moments. -/
theorem out_m (r : Fin 128) (j : Fin 1536) : Gen.out0_A_6 c i arg1 harg1 arg2 harg2 arg3 harg3 arg4 harg4 arg5 harg5 arg6 harg6 arg7 harg7 arg8 harg8 arg9 harg9 arg10 harg10 arg11 harg11 x0 x1 x2 x3 x4 (ix2 r j) = rowM x0 x1 x3 r j := by
  unfold Gen.out0_A_6
  rw [View.read_writes_junk_eq_canon, m_pieces]
  exact cells_canon blocks (cellM x0 x1 x3) (rowM x0 x1 x3) (fun b q r l => cellM_eq x0 x1 x3 b q r l) r j (mem_blocks _)

/-- The block of new second moments. -/
theorem out_v (r : Fin 128) (j : Fin 1536) : Gen.out0_A_7 c i arg1 harg1 arg2 harg2 arg3 harg3 arg4 harg4 arg5 harg5 arg6 harg6 arg7 harg7 arg8 harg8 arg9 harg9 arg10 harg10 arg11 harg11 x0 x1 x2 x3 x4 (ix2 r j) = rowV x0 x1 x4 r j := by
  unfold Gen.out0_A_7
  rw [View.read_writes_junk_eq_canon, v_pieces]
  exact cells_canon blocks (cellV x0 x1 x4) (rowV x0 x1 x4) (fun b q r l => cellV_eq x0 x1 x4 b q r l) r j (mem_blocks _)

/-- The block of updates. -/
theorem out_u (r : Fin 128) (j : Fin 1536) : Gen.out0_A_8 c i arg1 harg1 arg2 harg2 arg3 harg3 arg4 harg4 arg5 harg5 arg6 harg6 arg7 harg7 arg8 harg8 arg9 harg9 arg10 harg10 arg11 harg11 x0 x1 x2 x3 x4 (ix2 r j) = rowU x0 x1 x2 x3 x4 r j := by
  unfold Gen.out0_A_8
  rw [View.read_writes_junk_eq_canon, upd_pieces]
  exact cells_canon blocks (cellU x0 x1 x2 x3 x4) (rowU x0 x1 x2 x3 x4) (fun b q r l => cellU_eq x0 x1 x2 x3 x4 b q r l) r j (mem_blocks _)

/-- The block of codes. -/
theorem out_codes (r : Fin 128) (j : Fin 1536) : Gen.out0_A_9 c i arg1 harg1 arg2 harg2 arg3 harg3 arg4 harg4 arg5 harg5 arg6 harg6 arg7 harg7 arg8 harg8 arg9 harg9 arg10 harg10 arg11 harg11 x0 x1 x2 x3 x4 (ix2 r j) = Spec.code (fun r l => rowW x0 x1 x2 x3 x4 r (col (blockOf j) l)) (rowW x0 x1 x2 x3 x4 r j) := by
  unfold Gen.out0_A_9
  rw [View.read_writes_junk_eq_canon, codes_pieces]
  refine columns_canon _ (fun r j => Spec.code (fun r l => rowW x0 x1 x2 x3 x4 r (col (blockOf j) l)) (rowW x0 x1 x2 x3 x4 r j)) (fun b r l => ?_) r j
  refine (codes_eq x0 x1 x2 x3 x4 b _ r l).trans ?_
  rw [View.readCov_eq_canon', blockOf_col]
  refine congrArg (Spec.code _) ?_
  show View.canon (cells (blocks.drop (11 - b.val)) (cellW x0 x1 x2 x3 x4)) ((column b).emb (ix2 r l)) = _
  rw [column_emb]
  exact cells_canon _ (cellW x0 x1 x2 x3 x4) (rowW x0 x1 x2 x3 x4) (fun b q r l => cellW_eq x0 x1 x2 x3 x4 b q r l) r (col b l)
    ((blockOf_col b l).symm ▸ mem_drop b)

/-- The row of scales. -/
theorem out_scales (l : Fin 128) : Gen.out0_A_10 c i arg1 harg1 arg2 harg2 arg3 harg3 arg4 harg4 arg5 harg5 arg6 harg6 arg7 harg7 arg8 harg8 arg9 harg9 arg10 harg10 arg11 harg11 x0 x1 x2 x3 x4 (ix3 0 0 l) =
    if h : l.val < 12 then Spec.scale (fun r k => rowW x0 x1 x2 x3 x4 r (col ⟨l.val, h⟩ k)) else 0 := by
  unfold Gen.out0_A_10
  rw [View.read_writes_junk_eq_canon, scales_pieces, scaleStore_canon, scaleRow_apply]
  simp only [scale_eq]

end Cert.KernelIdeal.Body

end
-- ==== Proof.Reference.lean ====
/-
  The reference's results read over the extended reals, entry by entry.
-/
module

public import proofs.«01_k».proof.Proof.Spec
public import proofs.«01_k».proof.Proof.Gen.ReferenceIdeal.Value

@[expose] public section

noncomputable section

namespace Cert.ReferenceIdeal.Read

open Cert.ReferenceIdeal Idealize.ShloMosaic Idealize.SL.Sem
open Cert.ReferenceIdeal.Gen (k0_pay1 k0_pay2 k0_pay3 k0_pay4 k0_pay5 k0_pay6 k0_pay7 k0_pay8 k0_pay9 k0_pay10 k0_pay11 k0_pay12 k0_pay13 k0_pay14 k0_pay15)
open Facts₀ Facts

variable (x0 : Vec Ideal S64x3840x1536 .fp8e5m2) (x1 : Vec Ideal S64x3840x12 .f32) (x2 x3 x4 : Vec Ideal S3840x1536 .f32)

/-- The mean gradient: the sum over the ranks of scale times code, over their number. -/
def G (i : Fin 3840) (j : Fin 1536) : EReal :=
  (∑ k : Fin 64, x1 (ix3 k i (⟨j.val / 128, by omega⟩ : Fin 12)) * x0 (ix3 k i j)) * Ideal.ofBits .f32 0x3C800000#32
/-- The new first moment. -/
def M (i : Fin 3840) (j : Fin 1536) : EReal := Spec.m (G x0 x1 i j) (x3 (ix2 i j))
/-- The new second moment. -/
def V (i : Fin 3840) (j : Fin 1536) : EReal := Spec.v (G x0 x1 i j) (x4 (ix2 i j))
/-- The update. -/
def U (i : Fin 3840) (j : Fin 1536) : EReal := Spec.u (G x0 x1 i j) (x2 (ix2 i j)) (x3 (ix2 i j)) (x4 (ix2 i j))
/-- The new weight. -/
def W (i : Fin 3840) (j : Fin 1536) : EReal := Spec.w (G x0 x1 i j) (x2 (ix2 i j)) (x3 (ix2 i j)) (x4 (ix2 i j))

/-- Block `b` of columns in block `t` of rows of the new weights. -/
def block (t : Fin 30) (b : Fin 12) (r l : Fin 128) : EReal :=
  W x0 x1 x2 x3 x4 ⟨128 * t.val + r.val, by omega⟩ ⟨128 * b.val + l.val, by omega⟩

/-- Division by a positive real is multiplication by its inverse. -/
theorem div_coe (x : EReal) (r : ℝ) (hr : r ≠ 0) : Ideal.div x (r : EReal) = x * ((r⁻¹ : ℝ) : EReal) := by
  unfold Ideal.div
  rw [if_neg (by simpa using hr), EReal.coe_inv]

theorem ofBits_64 : Ideal.ofBits .f32 0x42800000#32 = ((64 : ℝ) : EReal) := by
  have := Quant.ofBits_pow 0x42800000#32 133 (by decide) (by decide) (by decide)
  rw [this]
  norm_num

theorem ofBits_64th : Ideal.ofBits .f32 0x3C800000#32 = (((64 : ℝ)⁻¹ : ℝ) : EReal) := by
  have := Quant.ofBits_pow 0x3C800000#32 121 (by decide) (by decide) (by decide)
  rw [this]
  norm_num

theorem pay3_apply (i : Fin 3840) (j : Fin 1536) : k0_pay3 x0 x1 (ix2 i j) = G x0 x1 i j := by
  have hj := j.isLt
  unfold k0_pay3
  refine (shapeCast_apply (s := S3840x12x128) (t := S3840x1536) _ _ (ix2 i j)
    (ix3 i (⟨j.val / 128, by omega⟩ : Fin 12) (⟨j.val % 128, by omega⟩ : Fin 128)) (by
      rw [Shape.rowMajor_val_two, Shape.rowMajor_val_three]
      show (i.val * 12 + j.val / 128) * 128 + j.val % 128 = i.val * 1536 + j.val
      omega)).trans ?_
  have hA : ∀ (k : Fin 64) (i : Fin 3840) (b : Fin 12) (l : Fin 128),
      (shapeCast S64x3840x12x128 x0 Gen.shapeCasts_S64x3840x1536_S64x3840x12x128 : FVec Ideal S64x3840x12x128 .fp8e5m2) (ix4 k i b l) =
        x0 (ix3 k i (⟨128 * b.val + l.val, by omega⟩ : Fin 1536)) := fun k i b l =>
    shapeCast_apply (s := S64x3840x1536) (t := S64x3840x12x128) _ _ (ix4 k i b l) _ (by
      rw [Shape.rowMajor_val_four, Shape.rowMajor_val_three]
      show (k.val * 3840 + i.val) * 1536 + (128 * b.val + l.val) = ((k.val * 3840 + i.val) * 12 + b.val) * 128 + l.val
      omega)
  have hB : ∀ (k : Fin 64) (i : Fin 3840) (b : Fin 12),
      (shapeCast S64x3840x12x1 x1 Gen.shapeCasts_S64x3840x12_S64x3840x12x1 : FVec Ideal S64x3840x12x1 .f32) (ix4 k i b 0) = x1 (ix3 k i b) := fun k i b =>
    shapeCast_apply (s := S64x3840x12) (t := S64x3840x12x1) _ _ (ix4 k i b (0 : Fin 1)) _ (by
      rw [Shape.rowMajor_val_four, Shape.rowMajor_val_three]
      show (k.val * 3840 + i.val) * 12 + b.val = ((k.val * 3840 + i.val) * 12 + b.val) * 1 + 0
      omega)
  revert hA hB
  generalize (shapeCast S64x3840x12x128 x0 Gen.shapeCasts_S64x3840x1536_S64x3840x12x128 : FVec Ideal S64x3840x12x128 .fp8e5m2) = A
  generalize (shapeCast S64x3840x12x1 x1 Gen.shapeCasts_S64x3840x12_S64x3840x12x1 : FVec Ideal S64x3840x12x1 .f32) = B
  intro hA hB
  pointwise
  rw [ofBits_64, div_coe _ _ (by norm_num), G, ofBits_64th]
  congr 1
  refine Finset.sum_congr rfl fun k _ => ?_
  rw [hA, hB, mul_comm]
  congr 3
  exact Fin.ext (by show 128 * (j.val / 128) + j.val % 128 = j.val; omega)

theorem pay4_apply (i : Fin 3840) (j : Fin 1536) : k0_pay4 x0 x1 x3 (ix2 i j) = M x0 x1 x3 i j := by
  show Ideal.ofBits .f32 0x3F666666#32 * x3 (ix2 i j) + Ideal.ofBits .f32 0x3DCCCCCD#32 * k0_pay3 x0 x1 (ix2 i j) = _
  rw [pay3_apply]
  rfl

theorem pay5_apply (i : Fin 3840) (j : Fin 1536) : k0_pay5 x0 x1 x4 (ix2 i j) = V x0 x1 x4 i j := by
  show Ideal.ofBits .f32 0x3F733333#32 * x4 (ix2 i j) +
    Ideal.ofBits .f32 0x3D4CCCCD#32 * (k0_pay3 x0 x1 (ix2 i j) * k0_pay3 x0 x1 (ix2 i j)) = _
  rw [pay3_apply]
  rfl

theorem pay8_apply (i : Fin 3840) (j : Fin 1536) :
    k0_pay8 (k0_pay6 x0 x1 x2 x3 x4) k0_pay7 (ix2 i j) = U x0 x1 x2 x3 x4 i j := by
  show Ideal.ofBits .f32 0x3C23D70A#32 *
    (Ideal.div (Ideal.div (k0_pay4 x0 x1 x3 (ix2 i j)) ((87842334540943071199 / 100000000000000000000 : ℝ) : EReal))
        (Ideal.sqrt (Ideal.div (k0_pay5 x0 x1 x4 (ix2 i j)) ((67267626542454041806644399 / 104857600000000000000000000 : ℝ) : EReal))
          + Ideal.ofBits .f32 0x322BCC77#32)
      + Ideal.ofBits .f32 0x3DCCCCCD#32 * x2 (ix2 i j)) = _
  rw [pay4_apply, pay5_apply, div_coe _ (87842334540943071199 / 100000000000000000000) (by norm_num),
    div_coe _ (67267626542454041806644399 / 104857600000000000000000000) (by norm_num), inv_div, inv_div]
  rfl

theorem pay9_apply (i : Fin 3840) (j : Fin 1536) :
    k0_pay9 x2 (k0_pay6 x0 x1 x2 x3 x4) k0_pay7 (ix2 i j) = W x0 x1 x2 x3 x4 i j := by
  show x2 (ix2 i j) - k0_pay8 (k0_pay6 x0 x1 x2 x3 x4) k0_pay7 (ix2 i j) = _
  rw [pay8_apply]
  rfl

theorem pay10_apply (t : Fin 30) (r : Fin 128) (b : Fin 12) (l : Fin 128) :
    k0_pay10 x2 (k0_pay6 x0 x1 x2 x3 x4) k0_pay7 (ix4 t r b l) = block x0 x1 x2 x3 x4 t b r l := by
  unfold k0_pay10
  refine (shapeCast_apply (s := S3840x1536) (t := S30x128x12x128) _ _ (ix4 t r b l)
    (ix2 (⟨128 * t.val + r.val, by omega⟩ : Fin 3840) (⟨128 * b.val + l.val, by omega⟩ : Fin 1536)) (by
      rw [Shape.rowMajor_val_two, Shape.rowMajor_val_four]
      show (128 * t.val + r.val) * 1536 + (128 * b.val + l.val) = ((t.val * 128 + r.val) * 12 + b.val) * 128 + l.val
      omega)).trans ?_
  exact pay9_apply ..

/-- The largest magnitude of a block. -/
theorem max_apply (A : FVec Ideal S30x128x12x128 .f32) (t : Fin 30) (b : Fin 12) :
    multiReduction .maximumf [1, 3] S30x12 (absf A) 0xFF800000#32 Gen.reduces_S30x128x12x128_S30x12 (.inl rfl) rfl (ix2 t b) =
      ⨆ r : Fin 128, ⨆ l : Fin 128, max (A (ix4 t r b l)) (-A (ix4 t r b l)) := by
  have hbot : Ideal.ofBits .f32 0xFF800000#32 = ⊥ := by simp [Ideal.ofBits, Ideal.ieee]
  pointwise
  rw [hbot]
  refine eq_of_forall_ge_iff fun z => ?_
  rw [Finset.fold_max_le]
  simp only [bot_le, true_and, Finset.mem_filter, Finset.mem_univ, iSup_le_iff]
  constructor
  · intro h r l
    refine h (ix4 t r b l) (funext fun a => Fin.ext ?_)
    match a with
    | ⟨0, _⟩ => exact Gen.reduces_S30x128x12x128_S30x12.drop_apply_val_of_eq (ix4 t r b l) 0 0
    | ⟨1, _⟩ => exact Gen.reduces_S30x128x12x128_S30x12.drop_apply_val_of_eq (ix4 t r b l) 1 2
  · intro h i hi
    have h0 := Gen.reduces_S30x128x12x128_S30x12.drop_apply_val_of_eq i 0 0
    have h1 := Gen.reduces_S30x128x12x128_S30x12.drop_apply_val_of_eq i 1 2
    rw [hi] at h0 h1
    have e : i = ix4 t (i 1) b (i 3) := funext fun a => Fin.ext (by
      match a with
      | ⟨0, _⟩ => exact h0.symm
      | ⟨1, _⟩ => rfl
      | ⟨2, _⟩ => exact h1.symm
      | ⟨3, _⟩ => rfl)
    rw [e]
    exact h (i 1) (i 3)

theorem sitofp_lo : (Scalar.sitofp .f32 4294967170#32 : Ideal .f32) = ((-126 : ℝ) : EReal) := by
  show (((4294967170#32 : BitVec 32).toInt : ℝ) : EReal) = _
  rw [show (4294967170#32 : BitVec 32).toInt = -126 by decide]
  norm_num

theorem sitofp_hi : (Scalar.sitofp .f32 126#32 : Ideal .f32) = ((126 : ℝ) : EReal) := by
  show (((126#32 : BitVec 32).toInt : ℝ) : EReal) = _
  rw [show (126#32 : BitVec 32).toInt = 126 by decide]
  norm_num

theorem sitofp_zero : (Scalar.sitofp .f32 0#32 : Ideal .f32) = ((0 : ℝ) : EReal) := by
  show (((0#32 : BitVec 32).toInt : ℝ) : EReal) = _
  rw [show (0#32 : BitVec 32).toInt = 0 by decide]
  norm_num

end Cert.ReferenceIdeal.Read

end
-- ==== Proof.RefQuant.lean ====
/-
  The reference's quantiser read over the extended reals: the exponent, the scale and the codes of a block.
-/
module

public import proofs.«01_k».proof.Proof.Reference

@[expose] public section

noncomputable section

namespace Cert.ReferenceIdeal.Read

open Cert.ReferenceIdeal Idealize.ShloMosaic Idealize.SL.Sem
open Cert.ReferenceIdeal.Gen (k0_pay1 k0_pay2 k0_pay3 k0_pay4 k0_pay5 k0_pay6 k0_pay7 k0_pay8 k0_pay9 k0_pay10 k0_pay11 k0_pay12 k0_pay13 k0_pay14 k0_pay15)
open Facts₀ Facts

variable (x0 : Vec Ideal S64x3840x1536 .fp8e5m2) (x1 : Vec Ideal S64x3840x12 .f32) (x2 x3 x4 : Vec Ideal S3840x1536 .f32)

/-- The floors of the binary logarithms plus one. -/
def floors (A : FVec Ideal S30x12 .f32) : FVec Ideal S30x12 .f32 :=
  addf (floor (divf (log (mulf A (broadcast S30x12 (Scalar.ofBits .f32 0x3B124925#32)))) (broadcast S30x12 (Named.named κ "ln2" 0x3F317218#32))))
    (broadcast S30x12 (Scalar.ofBits .f32 0x3F800000#32))

/-- The exponents of the scales, from the largest magnitudes, with the three integers as numbers. -/
def expoOf (zero lo hi : Ideal .f32) (A : FVec Ideal S30x12 .f32) : FVec Ideal S30x12 .f32 :=
  select (ori (cmpf .oeq A (broadcast S30x12 (Scalar.ofBits .f32 0x00000000#32))) (cmpf .oeq A (broadcast S30x12 (Scalar.ofBits .f32 0x7F800000#32))))
    (broadcast S30x12 zero) (minimumf (broadcast S30x12 hi) (maximumf (broadcast S30x12 lo) (floors A)))

theorem expoOf_congr {z z' lo lo' hi hi' : Ideal .f32} (h : z = z') (hl : lo = lo') (hh : hi = hi') (A : FVec Ideal S30x12 .f32) :
    expoOf z lo hi A = expoOf z' lo' hi' A := by
  rw [h, hl, hh]

theorem pay11_eq (w v u : FVec Ideal S3840x1536 .f32) :
    k0_pay11 w v u = expoOf ((0 : ℝ) : EReal) ((-126 : ℝ) : EReal) ((126 : ℝ) : EReal)
      (multiReduction .maximumf [1, 3] S30x12 (absf (k0_pay10 w v u)) 0xFF800000#32 Gen.reduces_S30x128x12x128_S30x12 (.inl rfl) rfl) :=
  (show k0_pay11 w v u = expoOf (Scalar.sitofp .f32 0#32) (Scalar.sitofp .f32 4294967170#32) (Scalar.sitofp .f32 126#32)
      (multiReduction .maximumf [1, 3] S30x12 (absf (k0_pay10 w v u)) 0xFF800000#32 Gen.reduces_S30x128x12x128_S30x12 (.inl rfl) rfl) from rfl).trans
    (expoOf_congr sitofp_zero sitofp_lo sitofp_hi _)

theorem floors_apply (A : FVec Ideal S30x12 .f32) (i : S30x12.Idx) :
    floors A i = Ideal.liftRound Int.floor (Ideal.div (Ideal.log (A i * Ideal.ofBits .f32 0x3B124925#32)) ((Real.log 2 : ℝ) : EReal)) +
      Ideal.ofBits .f32 0x3F800000#32 := rfl

theorem expoOf_apply (zero lo hi : Ideal .f32) (A : FVec Ideal S30x12 .f32) (i : S30x12.Idx) :
    expoOf zero lo hi A i = if A i = Ideal.ofBits .f32 0x00000000#32 ∨ A i = Ideal.ofBits .f32 0x7F800000#32 then zero
      else min hi (max lo (floors A i)) := by
  unfold expoOf
  generalize floors A = B
  have h0 : Ideal.ofBits .f32 0x00000000#32 = 0 := by simp [Ideal.ofBits, Ideal.ieee]
  have h1 : Ideal.ofBits .f32 0x7F800000#32 = ⊤ := by simp [Ideal.ofBits, Ideal.ieee]
  show Scalar.select (IntOp.ori (Ideal.cmp .oeq (A i) (Ideal.ofBits .f32 0x00000000#32)) (Ideal.cmp .oeq (A i) (Ideal.ofBits .f32 0x7F800000#32))) zero
    (FloatOps.minimumf hi (FloatOps.maximumf lo (B i))) = _
  rw [h0, h1, show FloatOps.minimumf hi (FloatOps.maximumf lo (B i)) = min hi (max lo (B i)) by rw [Ideal.minimumf_eq_min, Ideal.maximumf_eq_max]]
  show Scalar.select (IntOp.ori (BitVec.ofBool (decide (A i = 0))) (BitVec.ofBool (decide (A i = ⊤)))) zero _ = _
  by_cases e0 : A i = 0
  · rw [if_pos (.inl e0), decide_eq_true e0]
    show Scalar.select (IntOp.ori 1#1 _) _ _ = _
    generalize BitVec.ofBool (decide (A i = ⊤)) = w
    rw [show IntOp.ori 1#1 w = 1#1 from (by decide : ∀ w : BitVec 1, IntOp.ori 1#1 w = 1#1) w]
    rfl
  · by_cases e1 : A i = ⊤
    · rw [if_pos (.inr e1), decide_eq_false e0, decide_eq_true e1]
      rfl
    · rw [if_neg (by rintro (h | h); exact e0 h; exact e1 h), decide_eq_false e0, decide_eq_false e1]
      rfl

theorem ofBits_448th : Ideal.ofBits .f32 0x3B124925#32 = ((9586981 / 4294967296 : ℝ) : EReal) := by
  simp [Ideal.ofBits, Ideal.ieee]
  rw [← EReal.coe_mul]
  norm_num

/-- The exponent of a block's scale. -/
theorem pay11_apply (t : Fin 30) (b : Fin 12) :
    k0_pay11 x2 (k0_pay6 x0 x1 x2 x3 x4) k0_pay7 (ix2 t b) = ((Quant.expo (Spec.top (block x0 x1 x2 x3 x4 t b)) : ℝ) : EReal) := by
  have hm := max_apply (k0_pay10 x2 (k0_pay6 x0 x1 x2 x3 x4) k0_pay7) t b
  simp only [pay10_apply] at hm
  have h0 : Ideal.ofBits .f32 0x00000000#32 = 0 := by simp [Ideal.ofBits, Ideal.ieee]
  have h1 : Ideal.ofBits .f32 0x7F800000#32 = ⊤ := by simp [Ideal.ofBits, Ideal.ieee]
  have hone : Ideal.ofBits .f32 0x3F800000#32 = ((1 : ℝ) : EReal) := by
    rw [Quant.ofBits_pow 0x3F800000#32 127 (by decide) (by decide) (by decide)]
    norm_num
  rw [pay11_eq, expoOf_apply, floors_apply, hm, h0, h1, hone, Spec.top]
  have hpos : ∀ x : EReal, 0 ≤ max x (-x) := fun x => by
    rcases le_total 0 x with h | h
    · exact le_max_of_le_left h
    · exact le_max_of_le_right (EReal.neg_nonneg.mpr h)
  have hM : 0 ≤ ⨆ r : Fin 128, ⨆ l : Fin 128, max (block x0 x1 x2 x3 x4 t b r l) (-block x0 x1 x2 x3 x4 t b r l) :=
    (hpos (block x0 x1 x2 x3 x4 t b 0 0)).trans (le_iSup_of_le 0 (le_iSup_of_le 0 le_rfl))
  generalize (⨆ r : Fin 128, ⨆ l : Fin 128, max (block x0 x1 x2 x3 x4 t b r l) (-block x0 x1 x2 x3 x4 t b r l)) = M at hM ⊢
  rw [ofBits_448th]
  have hc : (0 : ℝ) < 9586981 / 4294967296 := by norm_num
  generalize (9586981 / 4294967296 : ℝ) = c at hc ⊢
  by_cases hz : M = 0 ∨ M = ⊤
  · rw [if_pos hz]
    have : Quant.expo (M * (c : EReal)) = 0 := by
      rcases hz with h | h <;> rw [h]
      · simp [Quant.expo]
      · rw [EReal.top_mul_coe_of_pos hc]; simp [Quant.expo]
    rw [this]
    norm_num
  · rw [if_neg hz]
    rw [not_or] at hz
    induction M using EReal.rec with
    | bot => simp at hM
    | top => exact absurd rfl hz.2
    | coe r =>
      have hr : r ≠ 0 := fun e => hz.1 (by rw [e]; rfl)
      rw [← EReal.coe_mul]
      exact Quant.expo_clip _ (EReal.coe_nonneg.mpr (mul_nonneg (EReal.coe_nonneg.mp hM) hc.le))
        (by simpa using ⟨hr, hc.ne'⟩) (EReal.coe_ne_top _)

theorem exp2_apply (A : FVec Ideal S30x12 .f32) (i : S30x12.Idx) : (exp2 A : FVec Ideal S30x12 .f32) i = Ideal.exp2 (A i) := rfl

theorem exp2_neg_apply (A : FVec Ideal S30x12 .f32) (i : S30x12.Idx) :
    (exp2 (subf (broadcast S30x12 (Scalar.ofBits .f32 0x00000000#32)) A) : FVec Ideal S30x12 .f32) i =
      Ideal.exp2 (Ideal.ofBits .f32 0x00000000#32 - A i) := rfl

/-- The scale of a block. -/
theorem pay12_apply (t : Fin 30) (b : Fin 12) :
    k0_pay12 x2 (k0_pay6 x0 x1 x2 x3 x4) k0_pay7 (ix2 t b) = Spec.scale (block x0 x1 x2 x3 x4 t b) := by
  have h := pay11_apply x0 x1 x2 x3 x4 t b
  unfold k0_pay12
  rw [exp2_apply, h, Quant.exp2_int, Spec.scale]

/-- One value for each block, for each entry of the block. -/
theorem spread_apply (A : FVec Ideal S30x12 .f32) (t : Fin 30) (r : Fin 128) (b : Fin 12) (l : Fin 128) :
    (broadcastTo S30x128x12x128 (shapeCast S30x1x12x1 A Gen.shapeCasts_S30x12_S30x1x12x1 : FVec Ideal S30x1x12x1 .f32)
      Gen.broadcasts_S30x1x12x1_S30x128x12x128 : FVec Ideal S30x128x12x128 .f32) (ix4 t r b l) = A (ix2 t b) := by
  have hA : (shapeCast S30x1x12x1 A Gen.shapeCasts_S30x12_S30x1x12x1 : FVec Ideal S30x1x12x1 .f32) (ix4 t 0 b 0) = A (ix2 t b) :=
    shapeCast_apply (s := S30x12) (t := S30x1x12x1) _ _ (ix4 t (0 : Fin 1) b (0 : Fin 1)) _ (by
      rw [Shape.rowMajor_val_four, Shape.rowMajor_val_two]
      show t.val * 12 + b.val = ((t.val * 1 + 0) * 12 + b.val) * 1 + 0
      omega)
  rw [← hA]
  generalize (shapeCast S30x1x12x1 A Gen.shapeCasts_S30x12_S30x1x12x1 : FVec Ideal S30x1x12x1 .f32) = B
  pointwise

/-- The codes of a block. -/
theorem pay13_apply (t : Fin 30) (r : Fin 128) (b : Fin 12) (l : Fin 128) :
    k0_pay13 x2 (k0_pay6 x0 x1 x2 x3 x4) k0_pay7 (ix4 t r b l) =
      Spec.code (block x0 x1 x2 x3 x4 t b) (block x0 x1 x2 x3 x4 t b r l) := by
  have hs := spread_apply (exp2 (subf (broadcast S30x12 (Scalar.ofBits .f32 0x00000000#32)) (k0_pay11 x2 (k0_pay6 x0 x1 x2 x3 x4) k0_pay7))) t r b l
  have he : (exp2 (subf (broadcast S30x12 (Scalar.ofBits .f32 0x00000000#32)) (k0_pay11 x2 (k0_pay6 x0 x1 x2 x3 x4) k0_pay7)) : FVec Ideal S30x12 .f32)
      (ix2 t b) = (((2 : ℝ) ^ (-Quant.expo (Spec.top (block x0 x1 x2 x3 x4 t b))) : ℝ) : EReal) := by
    rw [exp2_neg_apply, pay11_apply, show Ideal.ofBits .f32 0x00000000#32 = 0 by simp [Ideal.ofBits, Ideal.ieee], zero_sub, ← EReal.coe_neg, ← Int.cast_neg,
      Quant.exp2_int]
  rw [he] at hs
  rw [← pay10_apply x0 x1 x2 x3 x4 t r b l, Spec.code, ← hs]
  unfold k0_pay13
  generalize k0_pay11 x2 (k0_pay6 x0 x1 x2 x3 x4) k0_pay7 = E
  generalize k0_pay10 x2 (k0_pay6 x0 x1 x2 x3 x4) k0_pay7 = A
  rfl

/-- The codes, by row and column. -/
theorem pay1_apply (i : Fin 3840) (j : Fin 1536) :
    k0_pay1 (k0_pay13 x2 (k0_pay6 x0 x1 x2 x3 x4) k0_pay7) (ix2 i j) =
      Spec.code (block x0 x1 x2 x3 x4 ⟨i.val / 128, by omega⟩ ⟨j.val / 128, by omega⟩) (W x0 x1 x2 x3 x4 i j) := by
  have hi := i.isLt
  have hj := j.isLt
  unfold k0_pay1
  refine (shapeCast_apply (s := S30x128x12x128) (t := S3840x1536) _ _ (ix2 i j)
    (ix4 (⟨i.val / 128, by omega⟩ : Fin 30) (⟨i.val % 128, by omega⟩ : Fin 128) (⟨j.val / 128, by omega⟩ : Fin 12) (⟨j.val % 128, by omega⟩ : Fin 128)) (by
      rw [Shape.rowMajor_val_two, Shape.rowMajor_val_four]
      show ((i.val / 128 * 128 + i.val % 128) * 12 + j.val / 128) * 128 + j.val % 128 = i.val * 1536 + j.val
      omega)).trans ?_
  rw [pay13_apply]
  congr 1
  unfold block
  congr 1 <;> exact Fin.ext (by simp only []; omega)

/-- The row of scales of a row block: the scales of its column blocks, then zeros. -/
theorem pay2_apply (t : Fin 30) (l : Fin 128) :
    k0_pay2 (k0_pay12 x2 (k0_pay6 x0 x1 x2 x3 x4) k0_pay7) (ix3 t 0 l) =
      if h : l.val < 12 then Spec.scale (block x0 x1 x2 x3 x4 t ⟨l.val, h⟩) else 0 := by
  have hs := fun b => pay12_apply x0 x1 x2 x3 x4 t b
  revert hs
  generalize k0_pay12 x2 (k0_pay6 x0 x1 x2 x3 x4) k0_pay7 = A
  intro hs
  have hz := sitofp_zero
  unfold k0_pay2
  revert hz
  generalize (Scalar.sitofp .f32 0#32 : Ideal .f32) = z
  intro hz
  refine (shapeCast_apply (s := S30x128) (t := S30x1x128) _ _ (ix3 t (0 : Fin 1) l) (ix2 t l) (by
      rw [Shape.rowMajor_val_two, Shape.rowMajor_val_three]
      show t.val * 128 + l.val = (t.val * 1 + 0) * 128 + l.val
      omega)).trans ?_
  pointwise
  simp only [hs, hz, EReal.coe_zero]

theorem pay14_eq : k0_pay14 x0 x1 x2 x3 x4 = k0_pay6 x0 x1 x2 x3 x4 := by
  unfold k0_pay14
  rw [View.ld_unit_zero (S := S64x3840x1536) Value.hz0 _ x0, View.ld_unit_zero (S := S64x3840x12) Value.hz1 _ x1,
    View.ld_unit_zero (S := S3840x1536) Value.hz2 _ x2, View.ld_unit_zero (S := S3840x1536) Value.hz2 _ x3,
    View.ld_unit_zero (S := S3840x1536) Value.hz2 _ x4]

theorem pay15_eq : k0_pay15 x0 x1 x2 x3 x4 = k0_pay7 := rfl

theorem G5_apply (i : Fin 3840) (j : Fin 1536) : Value.G5 x0 x1 x2 x3 x4 (ix2 i j) = W x0 x1 x2 x3 x4 i j := by
  unfold Value.G5
  rw [pay14_eq, pay15_eq, pay9_apply]

theorem G6_apply (i : Fin 3840) (j : Fin 1536) : Value.G6 x0 x1 x2 x3 x4 (ix2 i j) = M x0 x1 x3 i j := pay4_apply ..

theorem G7_apply (i : Fin 3840) (j : Fin 1536) : Value.G7 x0 x1 x2 x3 x4 (ix2 i j) = V x0 x1 x4 i j := pay5_apply ..

theorem G8_apply (i : Fin 3840) (j : Fin 1536) : Value.G8 x0 x1 x2 x3 x4 (ix2 i j) = U x0 x1 x2 x3 x4 i j := by
  unfold Value.G8
  rw [pay14_eq, pay15_eq, pay8_apply]

theorem G9_apply (i : Fin 3840) (j : Fin 1536) : Value.G9 x0 x1 x2 x3 x4 (ix2 i j) =
    Spec.code (block x0 x1 x2 x3 x4 ⟨i.val / 128, by omega⟩ ⟨j.val / 128, by omega⟩) (W x0 x1 x2 x3 x4 i j) := by
  unfold Value.G9
  rw [pay14_eq, pay15_eq, pay1_apply]

theorem G10_apply (t : Fin 30) (l : Fin 128) : Value.G10 x0 x1 x2 x3 x4 (ix3 t 0 l) =
    if h : l.val < 12 then Spec.scale (block x0 x1 x2 x3 x4 t ⟨l.val, h⟩) else 0 := by
  unfold Value.G10
  rw [pay14_eq, pay15_eq, pay2_apply]

end Cert.ReferenceIdeal.Read

end
-- ==== Proof.Arrays.lean ====
/-
  The kernel's six result arrays, read entry by entry off its grid's blocks: each is the reference's.
-/
module

public import proofs.«01_k».proof.Proof.Blocks
public import proofs.«01_k».proof.Proof.RefQuant
public import proofs.«01_k».proof.Proof.Gen.KernelIdeal.Value
public import Idealize.ShloMosaic.Lib.Pipeline.ValueKit

@[expose] public section

noncomputable section

namespace Cert.KernelIdeal.Arrays

open Cert.KernelIdeal Cert.KernelIdeal.Gen Idealize.ShloMosaic Idealize.ShloMosaic.TcCoe Idealize.SL.Sem
open Idealize.ShloMosaic.Pipeline (Dat)

/-- Where each input window's block is at a grid point. -/
theorem inputs : ∀ t : Fin cfg0.N, win0_0.index t = ![0, t.val, 0] ∧ win0_1.index t = ![0, 0, t.val] ∧ win0_2.index t = ![t.val, 0]
    ∧ win0_3.index t = ![t.val, 0] ∧ win0_4.index t = ![t.val, 0] :=
  (by decide +kernel : ∀ t : Fin grid0.N, _)

/-- Where each output window's block is at a grid point. -/
theorem outputs : ∀ t : Fin cfg0.N, win0_5.index t = ![t.val, 0] ∧ win0_6.index t = ![t.val, 0] ∧ win0_7.index t = ![t.val, 0]
    ∧ win0_8.index t = ![t.val, 0] ∧ win0_9.index t = ![t.val, 0] ∧ win0_10.index t = ![t.val, 0, 0] :=
  (by decide +kernel : ∀ t : Fin grid0.N, _)

variable (m : (ℓ : Loc nD τ sig) → Buf (Elt Ideal) ℓ) (c : Dev nD) (t : Fin cfg0.N)

/-- The codes received, the first argument. -/
abbrev a0 : Vec Ideal S64x3840x1536 .fp8e5m2 := m ((c : Thread nD τ).loc main_arg0)
/-- Their scales. -/
abbrev a1 : Vec Ideal S64x3840x12 .f32 := m ((c : Thread nD τ).loc main_arg1)
/-- The weights. -/
abbrev a2 : Vec Ideal S3840x1536 .f32 := m ((c : Thread nD τ).loc main_arg2)
/-- The first moments. -/
abbrev a3 : Vec Ideal S3840x1536 .f32 := m ((c : Thread nD τ).loc main_arg3)
/-- The second moments. -/
abbrev a4 : Vec Ideal S3840x1536 .f32 := m ((c : Thread nD τ).loc main_arg4)

theorem points : cfg0.N = 30 := by decide +kernel

/-- Row `r` of grid point `t`'s block of rows. -/
def rowAt (t : Fin cfg0.N) (r : Fin 128) : Fin 3840 := ⟨128 * t.val + r.val, by have := t.isLt; have := points; omega⟩

/-- Grid point `t` as the number of its block of rows. -/
def blockAt (t : Fin cfg0.N) : Fin 30 := ⟨t.val, by have := t.isLt; have := points; omega⟩

theorem block0 (k : Fin 64) (r : Fin 128) (j : Fin 1536) : iblk m c 0 t (ix3 k r j) = a0 m c (ix3 k (rowAt t r) j) := by
  blk_simp [iblk]
  rw [V_main_arg0]
  refine congrArg _ ?_
  blk_ext [inputs t, rowAt]

theorem block2 (r : Fin 128) (j : Fin 1536) : iblk m c 2 t (ix2 r j) = a2 m c (ix2 (rowAt t r) j) := by
  blk_simp [iblk]
  rw [V_main_arg2]
  refine congrArg _ ?_
  blk_ext [inputs t, rowAt]

theorem block3 (r : Fin 128) (j : Fin 1536) : iblk m c 3 t (ix2 r j) = a3 m c (ix2 (rowAt t r) j) := by
  blk_simp [iblk]
  rw [V_main_arg3]
  refine congrArg _ ?_
  blk_ext [inputs t, rowAt]

theorem block4 (r : Fin 128) (j : Fin 1536) : iblk m c 4 t (ix2 r j) = a4 m c (ix2 (rowAt t r) j) := by
  blk_simp [iblk]
  rw [V_main_arg4]
  refine congrArg _ ?_
  blk_ext [inputs t, rowAt]

/-- The array of scales as the grid finds it: turned so that the column blocks come first. -/
theorem turned : V m c main_v0 = (transpose S12x64x3840 [2, 0, 1] (a1 m c) Facts₀.transposes_S64x3840x12_S12x64x3840_2_0_1 : Vec Ideal S12x64x3840 .f32) := by
  show StableHlo.after hostOps0 _ main_v0 = _
  simp only [StableHlo.after_cons, StableHlo.after_nil]
  rfl

theorem block1 (b : Fin 12) (k : Fin 64) (r : Fin 128) : iblk m c 1 t (ix3 b k r) = a1 m c (ix3 k (rowAt t r) b) := by
  blk_simp [iblk]
  rw [turned]
  refine congrArg (a1 m c) (funext fun a => Fin.ext ?_)
  match a with
  | ⟨0, _⟩ => show win0_1.index t 1 * 64 + 1 * k.val = k.val; rw [(inputs t).2.1]; show 0 * 64 + 1 * k.val = k.val; omega
  | ⟨1, _⟩ => show win0_1.index t 2 * 128 + 1 * r.val = 128 * t.val + r.val; rw [(inputs t).2.1]; show t.val * 128 + 1 * r.val = 128 * t.val + r.val; omega
  | ⟨2, _⟩ => show win0_1.index t 0 * 12 + 1 * b.val = b.val; rw [(inputs t).2.1]; show 0 * 12 + 1 * b.val = b.val; omega

theorem row_G (r : Fin 128) (j : Fin 1536) :
    Body.rowG (iblk m c 0 t) (iblk m c 1 t) r j = ReferenceIdeal.Read.G (a0 m c) (a1 m c) (rowAt t r) j := by
  unfold Body.rowG ReferenceIdeal.Read.G
  simp only [block0, block1]

theorem row_M (r : Fin 128) (j : Fin 1536) :
    Body.rowM (iblk m c 0 t) (iblk m c 1 t) (iblk m c 3 t) r j = ReferenceIdeal.Read.M (a0 m c) (a1 m c) (a3 m c) (rowAt t r) j := by
  unfold Body.rowM ReferenceIdeal.Read.M
  rw [row_G, block3]

theorem row_V (r : Fin 128) (j : Fin 1536) :
    Body.rowV (iblk m c 0 t) (iblk m c 1 t) (iblk m c 4 t) r j = ReferenceIdeal.Read.V (a0 m c) (a1 m c) (a4 m c) (rowAt t r) j := by
  unfold Body.rowV ReferenceIdeal.Read.V
  rw [row_G, block4]

theorem row_U (r : Fin 128) (j : Fin 1536) :
    Body.rowU (iblk m c 0 t) (iblk m c 1 t) (iblk m c 2 t) (iblk m c 3 t) (iblk m c 4 t) r j =
      ReferenceIdeal.Read.U (a0 m c) (a1 m c) (a2 m c) (a3 m c) (a4 m c) (rowAt t r) j := by
  unfold Body.rowU ReferenceIdeal.Read.U
  rw [row_G, block2, block3, block4]

theorem row_W (r : Fin 128) (j : Fin 1536) :
    Body.rowW (iblk m c 0 t) (iblk m c 1 t) (iblk m c 2 t) (iblk m c 3 t) (iblk m c 4 t) r j =
      ReferenceIdeal.Read.W (a0 m c) (a1 m c) (a2 m c) (a3 m c) (a4 m c) (rowAt t r) j := by
  unfold Body.rowW ReferenceIdeal.Read.W
  rw [row_G, block2, block3, block4]

/-- The new weights in one column block of a row block. -/
theorem row_block (b : Fin 12) : (fun r l => Body.rowW (iblk m c 0 t) (iblk m c 1 t) (iblk m c 2 t) (iblk m c 3 t) (iblk m c 4 t) r (Body.col b l)) =
    ReferenceIdeal.Read.block (a0 m c) (a1 m c) (a2 m c) (a3 m c) (a4 m c) (blockAt t) b := by
  funext r l
  rw [row_W]
  rfl

/-- What a grid point leaves of the new weights. -/
theorem left_w (r : Fin 128) (j : Fin 1536) : (outsAt0 m c t).1 (ix2 r j) =
    ReferenceIdeal.Value.G5 (a0 m c) (a1 m c) (a2 m c) (a3 m c) (a4 m c) (ix2 (rowAt t r) j) := by
  rw [ReferenceIdeal.Read.G5_apply]
  have ho : (outsAt0 m c t).1 = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) := by simp only [outsAt0]
  rw [ho, Body.out_w]
  exact (row_W ..)

/-- The new weights after the run. -/
theorem final_w : (dats m 0 c).arrAt 5 cfg0.N = ReferenceIdeal.Value.G5 (a0 m c) (a1 m c) (a2 m c) (a3 m c) (a4 m c) := by
  refine (dats m 0 c).arrAt_eq_of_covers 5 _ (by decide +kernel) fun t hf y => ?_
  blk_simp
  rw [after0_5]
  have he : (win0_5.blk t).view.emb y = ix2 (rowAt t (y 0)) (y 1 : Fin 1536) := by blk_ext [outputs t, rowAt]
  exact (congrArg (outsAt0 m c t).1 (Body.ix2_coords (n := 128) (k := 1536) y)).trans <| (left_w m c t (y 0) (y 1)).trans (congrArg (ReferenceIdeal.Value.G5 (a0 m c) (a1 m c) (a2 m c) (a3 m c) (a4 m c)) he.symm)

/-- What a grid point leaves of the new first moments. -/
theorem left_m (r : Fin 128) (j : Fin 1536) : (outsAt0 m c t).2.1 (ix2 r j) =
    ReferenceIdeal.Value.G6 (a0 m c) (a1 m c) (a2 m c) (a3 m c) (a4 m c) (ix2 (rowAt t r) j) := by
  rw [ReferenceIdeal.Read.G6_apply]
  have ho : (outsAt0 m c t).2.1 = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) := by simp only [outsAt0]
  rw [ho, Body.out_m]
  exact (row_M ..)

/-- The new first moments after the run. -/
theorem final_m : (dats m 0 c).arrAt 6 cfg0.N = ReferenceIdeal.Value.G6 (a0 m c) (a1 m c) (a2 m c) (a3 m c) (a4 m c) := by
  refine (dats m 0 c).arrAt_eq_of_covers 6 _ (by decide +kernel) fun t hf y => ?_
  blk_simp
  rw [after0_6]
  have he : (win0_6.blk t).view.emb y = ix2 (rowAt t (y 0)) (y 1 : Fin 1536) := by blk_ext [outputs t, rowAt]
  exact (congrArg (outsAt0 m c t).2.1 (Body.ix2_coords (n := 128) (k := 1536) y)).trans <| (left_m m c t (y 0) (y 1)).trans (congrArg (ReferenceIdeal.Value.G6 (a0 m c) (a1 m c) (a2 m c) (a3 m c) (a4 m c)) he.symm)

/-- What a grid point leaves of the new second moments. -/
theorem left_v (r : Fin 128) (j : Fin 1536) : (outsAt0 m c t).2.2.1 (ix2 r j) =
    ReferenceIdeal.Value.G7 (a0 m c) (a1 m c) (a2 m c) (a3 m c) (a4 m c) (ix2 (rowAt t r) j) := by
  rw [ReferenceIdeal.Read.G7_apply]
  have ho : (outsAt0 m c t).2.2.1 = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) := by simp only [outsAt0]
  rw [ho, Body.out_v]
  exact (row_V ..)

/-- The new second moments after the run. -/
theorem final_v : (dats m 0 c).arrAt 7 cfg0.N = ReferenceIdeal.Value.G7 (a0 m c) (a1 m c) (a2 m c) (a3 m c) (a4 m c) := by
  refine (dats m 0 c).arrAt_eq_of_covers 7 _ (by decide +kernel) fun t hf y => ?_
  blk_simp
  rw [after0_7]
  have he : (win0_7.blk t).view.emb y = ix2 (rowAt t (y 0)) (y 1 : Fin 1536) := by blk_ext [outputs t, rowAt]
  exact (congrArg (outsAt0 m c t).2.2.1 (Body.ix2_coords (n := 128) (k := 1536) y)).trans <| (left_v m c t (y 0) (y 1)).trans (congrArg (ReferenceIdeal.Value.G7 (a0 m c) (a1 m c) (a2 m c) (a3 m c) (a4 m c)) he.symm)

/-- What a grid point leaves of the updates. -/
theorem left_u (r : Fin 128) (j : Fin 1536) : (outsAt0 m c t).2.2.2.1 (ix2 r j) =
    ReferenceIdeal.Value.G8 (a0 m c) (a1 m c) (a2 m c) (a3 m c) (a4 m c) (ix2 (rowAt t r) j) := by
  rw [ReferenceIdeal.Read.G8_apply]
  have ho : (outsAt0 m c t).2.2.2.1 = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) := by simp only [outsAt0]
  rw [ho, Body.out_u]
  exact (row_U ..)

/-- The updates after the run. -/
theorem final_u : (dats m 0 c).arrAt 8 cfg0.N = ReferenceIdeal.Value.G8 (a0 m c) (a1 m c) (a2 m c) (a3 m c) (a4 m c) := by
  refine (dats m 0 c).arrAt_eq_of_covers 8 _ (by decide +kernel) fun t hf y => ?_
  blk_simp
  rw [after0_8]
  have he : (win0_8.blk t).view.emb y = ix2 (rowAt t (y 0)) (y 1 : Fin 1536) := by blk_ext [outputs t, rowAt]
  exact (congrArg (outsAt0 m c t).2.2.2.1 (Body.ix2_coords (n := 128) (k := 1536) y)).trans <| (left_u m c t (y 0) (y 1)).trans (congrArg (ReferenceIdeal.Value.G8 (a0 m c) (a1 m c) (a2 m c) (a3 m c) (a4 m c)) he.symm)

/-- What a grid point leaves of the new codes. -/
theorem left_codes (r : Fin 128) (j : Fin 1536) : (outsAt0 m c t).2.2.2.2.1 (ix2 r j) =
    ReferenceIdeal.Value.G9 (a0 m c) (a1 m c) (a2 m c) (a3 m c) (a4 m c) (ix2 (rowAt t r) j) := by
  rw [ReferenceIdeal.Read.G9_apply]
  have ho : (outsAt0 m c t).2.2.2.2.1 = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) := by simp only [outsAt0]
  rw [ho, Body.out_codes]
  have ht : (⟨(rowAt t r).val / 128, by omega⟩ : Fin 30) = blockAt t :=
    Fin.ext (by show (128 * t.val + r.val) / 128 = t.val; omega)
  rw [row_block, row_W]
  refine congrArg (fun s => Spec.code (ReferenceIdeal.Read.block (a0 m c) (a1 m c) (a2 m c) (a3 m c) (a4 m c) s _) _) ht.symm

/-- The new codes after the run. -/
theorem final_codes : (dats m 0 c).arrAt 9 cfg0.N = ReferenceIdeal.Value.G9 (a0 m c) (a1 m c) (a2 m c) (a3 m c) (a4 m c) := by
  refine (dats m 0 c).arrAt_eq_of_covers 9 _ (by decide +kernel) fun t hf y => ?_
  blk_simp
  rw [after0_9]
  have he : (win0_9.blk t).view.emb y = ix2 (rowAt t (y 0)) (y 1 : Fin 1536) := by blk_ext [outputs t, rowAt]
  exact (congrArg (outsAt0 m c t).2.2.2.2.1 (Body.ix2_coords (n := 128) (k := 1536) y)).trans <| (left_codes m c t (y 0) (y 1)).trans (congrArg (ReferenceIdeal.Value.G9 (a0 m c) (a1 m c) (a2 m c) (a3 m c) (a4 m c)) he.symm)

/-- What a grid point leaves of the new scales. -/
theorem left_scales (l : Fin 128) : (outsAt0 m c t).2.2.2.2.2 (ix3 0 0 l) =
    ReferenceIdeal.Value.G10 (a0 m c) (a1 m c) (a2 m c) (a3 m c) (a4 m c) (ix3 (blockAt t) 0 l) := by
  rw [ReferenceIdeal.Read.G10_apply]
  have ho : (outsAt0 m c t).2.2.2.2.2 = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) := by simp only [outsAt0]
  rw [ho, Body.out_scales]
  simp only [row_block]

/-- The new scales after the run. -/
theorem final_scales : (dats m 0 c).arrAt 10 cfg0.N = ReferenceIdeal.Value.G10 (a0 m c) (a1 m c) (a2 m c) (a3 m c) (a4 m c) := by
  refine (dats m 0 c).arrAt_eq_of_covers 10 _ (by decide +kernel) fun t hf y => ?_
  blk_simp
  rw [after0_10]
  have he : (win0_10.blk t).view.emb y = ix3 (blockAt t) (0 : Fin 1) (y 2 : Fin 128) := by blk_ext [outputs t, blockAt]
  have h0 : (y 0 : Nat) < 1 := (y 0).isLt
  have h1 : (y 1 : Nat) < 1 := (y 1).isLt
  have hy : y = ix3 (n0 := 1) (n1 := 1) (n2 := 128) 0 0 (y 2) := funext fun a => Fin.ext <| match a with
    | ⟨0, _⟩ => by show (y 0 : Nat) = 0; omega
    | ⟨1, _⟩ => by show (y 1 : Nat) = 0; omega
    | ⟨2, _⟩ => rfl
  exact (congrArg (outsAt0 m c t).2.2.2.2.2 hy).trans <| (left_scales m c t (y 2)).trans (congrArg (ReferenceIdeal.Value.G10 (a0 m c) (a1 m c) (a2 m c) (a3 m c) (a4 m c)) he.symm)

end Cert.KernelIdeal.Arrays

end
-- ==== Proof.Claims.lean ====
/-
  The two claims that are not generated: what the replaced operations rest on, and that the kernel's six results are the
  reference's.
-/
module

public import proofs.«01_k».proof.Defs
public import proofs.«01_k».proof.Proof.Arrays
public import proofs.«01_k».proof.Proof.Gen.ReferenceIdeal.Value

@[expose] public section

noncomputable section

namespace Cert.Proof

open Idealize.ShloMosaic Idealize.ShloMosaic.TcCoe Idealize.SL.Sem

theorem preserves : Cert.preserves_Kernel_KernelIdeal :=
  ⟨IdealRules.bf16_pack.statement _, IdealRules.named_const.statement _ _ _ _ _ rfl, IdealRules.named_const.statement _ _ _ _ _ rfl⟩

/-- The kernel's result arrays are the reference's, whatever the arguments. -/
theorem algebraic : Cert.algebraic_KernelIdeal_ReferenceIdeal := by
  intro m g m' g' _ hargs
  refine ⟨_, _, _, _, _, _, Cert.KernelIdeal.Value.run_blocks m g, ?_⟩
  refine (θ_run _ _ _).mono (fun r h c => ?_) (Cert.ReferenceIdeal.Value.run m' g')
  obtain ⟨h0, h1, h2, h3, h4, h5, ha⟩ := h c
  obtain ⟨e0, e1, e2, e3, e4⟩ := hargs c
  rw [e0, e1, e2, e3, e4] at h0 h1 h2 h3 h4 h5
  exact ⟨h0.trans (KernelIdeal.Arrays.final_w m c).symm, h1.trans (KernelIdeal.Arrays.final_m m c).symm,
    h2.trans (KernelIdeal.Arrays.final_v m c).symm, h3.trans (KernelIdeal.Arrays.final_u m c).symm,
    h4.trans (KernelIdeal.Arrays.final_codes m c).symm, h5.trans (KernelIdeal.Arrays.final_scales m c).symm, ha⟩

end Cert.Proof

end
-- ==== Proof.lean ====
/-
  The claim, from its parts: the three generated frame runs, and the two claims of `Claims.lean`.
-/
module

public import proofs.«01_k».proof.Defs
public import proofs.«01_k».proof.Proof.Claims
public import proofs.«01_k».proof.Proof.Gen.Kernel.Frame
public import proofs.«01_k».proof.Proof.Gen.KernelIdeal.Frame
public import proofs.«01_k».proof.Proof.Gen.ReferenceIdeal.Frame

@[expose] public section

noncomputable section

theorem Cert.Proof.claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, Cert.Proof.preserves, Cert.Proof.algebraic⟩

end
